-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_is_unique [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_is_unique [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_is_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_is_unique [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_is_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_KernelIdeal (hKernelIdeal := hKernelIdeal)
    ∧ quiescent_KernelIdeal_pre_nearest_is_unique (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal_pre_nearest_is_unique (hKernelIdeal := hKernelIdeal) (hReferenceIdeal := hReferenceIdeal) (hPre_nearest_is_unique := hPre_nearest_is_unique)
-- ==== Pre_nearest_is_unique.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S16384x1024 : Shape := ⟨2, ![16384, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S1024x64_S1024_d1 : S1024x64.ReducesTo [1] S1024
  bcast_S1024_S1024x1_0 : S1024.BroadcastsInDim S1024x1 (![0] : Fin 1 → Fin S1024x1.rank)
  transposes_S1024x1_S1x1024_1_0 : S1024x1.Transposes [1, 0] S1x1024
  transposes_S1024x64_S64x1024_1_0 : S1024x64.Transposes [1, 0] S64x1024
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S16384_d1 : S16384x1024.ReducesTo [1] S16384
  bcast_S_S16384 : S_.BroadcastsInDim S16384 (![] : Fin 0 → Fin S16384.rank)
  reducesTo_S1024x64_S_d0_1 : S1024x64.ReducesTo [0, 1] S_
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg1 : FVec F S1024x64 .f32) (main_v1 : FVec F S16384x64 .f32) (main_v16 : FVec F S16384x1024 .f32) (main_v19 : FVec F S16384x1024 .f32) : IVec S16384 1 :=
  let main_v20 : IVec S16384x1024 1 := cmpf .oeq main_v16 main_v19
  let main_v21 : FVec F S16384x1024 .f32 := uitofp .f32 main_v20
  let main_cst_3 : FVec F S_ .f32 := constant S_ .f32 0x00000000#32
  let main_v22 : FVec F S16384 .f32 := (fun x v => Host.reduceAdd x v reducesTo_S16384x1024_S16384_d1 h_S_) main_v21 main_cst_3
  let main_v23 : FVec F S16384x64 .f32 := Host.absf main_v1
  let main_cst_4 : FVec F S_ .f32 := constant S_ .f32 0xFF800000#32
  let main_v24 : FVec F S16384 .f32 := (fun x v => Host.reduce FloatOps.maximumf x v reducesTo_S16384x64_S16384_d1 h_S_) main_v23 main_cst_4
  let main_cst_5 : FVec F S_ .f32 := constant S_ .f32 0x7F800000#32
  let main_v25 : FVec F S16384 .f32 := broadcastInDim S16384 ![] bcast_S_S16384 main_cst_5
  let main_v26 : IVec S16384 1 := cmpf .olt main_v24 main_v25
  let main_v27 : FVec F S1024x64 .f32 := Host.absf main_arg1
  let main_cst_6 : FVec F S_ .f32 := constant S_ .f32 0xFF800000#32
  let main_v28 : FVec F S_ .f32 := (fun x v => Host.reduce FloatOps.maximumf x v reducesTo_S1024x64_S_d0_1 h_S_) main_v27 main_cst_6
  let main_cst_7 : FVec F S_ .f32 := constant S_ .f32 0x7F800000#32
  let main_v29 : IVec S_ 1 := cmpf .olt main_v28 main_cst_7
  let main_cst_8 : FVec F S_ .f32 := constant S_ .f32 0x3F800000#32
  let main_v30 : FVec F S16384 .f32 := broadcastInDim S16384 ![] bcast_S_S16384 main_cst_8
  let main_v31 : IVec S16384 1 := cmpf .oeq main_v22 main_v30
  let main_v32 : IVec S16384 1 := andi main_v31 main_v26
  let main_v33 : IVec S16384 1 := broadcastInDim S16384 ![] bcast_S_S16384 main_v29
  let main_v34 : IVec S16384 1 := andi main_v32 main_v33
  main_v34

def fn {F : FTy → Type} [FloatOps F] (main_arg0 : FVec F S16x64x32x32 .f32) (main_arg1 : FVec F S1024x64 .f32) : IVec S16384 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_v5 : FVec F S1024x64 .f32 := mulf main_arg1 main_arg1
  let main_cst_0 : FVec F S_ .f32 := constant S_ .f32 0x00000000#32
  let main_v6 : FVec F S1024 .f32 := (fun x v => Host.reduceAdd x v reducesTo_S1024x64_S1024_d1 h_S_) main_v5 main_cst_0
  let main_v7 : FVec F S1024x1 .f32 := broadcastInDim S1024x1 ![0] bcast_S1024_S1024x1_0 main_v6
  let main_v8 : FVec F S1x1024 .f32 := (transpose S1x1024 [1, 0] · transposes_S1024x1_S1x1024_1_0) main_v7
  let main_v9 : FVec F S64x1024 .f32 := (transpose S64x1024 [1, 0] · transposes_S1024x64_S64x1024_1_0) main_arg1
  let main_v10 : FVec F S16384x1024 .f32 := (fun l r => Host.dotGeneral dot_S16384x64_S64x1024_S16384x1024_1_0_0_1_n_n none l r) main_v1 main_v9
  let main_v11 : FVec F S16384x1024 .f32 := broadcastInDim S16384x1024 ![0, 1] bcast_S16384x1_S16384x1024_0_1 main_v4
  let main_v12 : FVec F S16384x1024 .f32 := broadcastInDim S16384x1024 ![0, 1] bcast_S1x1024_S16384x1024_0_1 main_v8
  let main_v13 : FVec F S16384x1024 .f32 := addf main_v11 main_v12
  let main_cst_1 : FVec F S_ .f32 := constant S_ .f32 0x40000000#32
  let main_v14 : FVec F S16384x1024 .f32 := broadcastInDim S16384x1024 ![] bcast_S_S16384x1024 main_cst_1
  let main_v15 : FVec F S16384x1024 .f32 := mulf main_v14 main_v10
  let main_v16 : FVec F S16384x1024 .f32 := subf main_v13 main_v15
  let main_cst_2 : FVec F S_ .f32 := constant S_ .f32 0x7F800000#32
  let main_v17 : FVec F S16384 .f32 := (fun x v => Host.reduce FloatOps.minimumf x v reducesTo_S16384x1024_S16384_d1 h_S_) main_v16 main_cst_2
  let main_v18 : FVec F S16384x1 .f32 := broadcastInDim S16384x1 ![0] bcast_S16384_S16384x1_0 main_v17
  let main_v19 : FVec F S16384x1024 .f32 := broadcastInDim S16384x1024 ![0, 1] bcast_S16384x1_S16384x1024_0_1 main_v18
  fn_part1 (F := F) main_arg1 main_v1 main_v16 main_v19
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1x1024 : Shape := ⟨3, ![16, 1, 1024]⟩
abbrev S1 : Shape := ⟨1, ![1]⟩
abbrev S1x64x1024 : Shape := ⟨3, ![1, 64, 1024]⟩
abbrev S1x1x1024 : Shape := ⟨3, ![1, 1, 1024]⟩
abbrev S1024x1024 : Shape := ⟨2, ![1024, 1024]⟩
abbrev S1024x1 : Shape := ⟨2, ![1024, 1]⟩
abbrev S1024 : Shape := ⟨1, ![1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S512x1024 : Shape := ⟨2, ![512, 1024]⟩
abbrev S256x1024 : Shape := ⟨2, ![256, 1024]⟩
abbrev S128x1024 : Shape := ⟨2, ![128, 1024]⟩
abbrev S1x1x1 : Shape := ⟨3, ![1, 1, 1]⟩
abbrev S1x1024x1 : Shape := ⟨3, ![1, 1024, 1]⟩
abbrev S_ : Shape := ⟨0, ![]⟩

abbrev nBuf : Space → Nat
  | .hbm => 11
  | .vmem => 11
  | .smem => 3
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x64x1024, .f32⟩
  | .hbm, ⟨4, _⟩ => ⟨S16x1x1024, .i32⟩
  | .hbm, ⟨5, _⟩ => ⟨S1, .f32⟩
  | .hbm, ⟨6, _⟩ => ⟨S1, .f32⟩
  | .hbm, ⟨7, _⟩ => ⟨S16x64x32x32, .f32⟩
  | .hbm, ⟨8, _⟩ => ⟨S_, .f32⟩
  | .hbm, ⟨9, _⟩ => ⟨S_, .f32⟩
  | .hbm, ⟨10, _⟩ => ⟨S16x1024, .i32⟩
  | .local _ .vmem, ⟨0, _⟩ => ⟨S1x64x1024, .f32⟩
  | .local _ .vmem, ⟨1, _⟩ => ⟨S1x64x1024, .f32⟩
  | .local _ .vmem, ⟨2, _⟩ => ⟨S1024x64, .f32⟩
  | .local _ .vmem, ⟨3, _⟩ => ⟨S1x64x1024, .f32⟩
  | .local _ .vmem, ⟨4, _⟩ => ⟨S1x64x1024, .f32⟩
  | .local _ .vmem, ⟨5, _⟩ => ⟨S1x1x1024, .i32⟩
  | .local _ .vmem, ⟨6, _⟩ => ⟨S1x1x1024, .i32⟩
  | .local _ .vmem, ⟨7, _⟩ => ⟨S1024x1024, .f32⟩
  | .local _ .vmem, ⟨8, _⟩ => ⟨S1024x1024, .f32⟩
  | .local _ .vmem, ⟨9, _⟩ => ⟨S1024x64, .f32⟩
  | .local _ .vmem, ⟨10, _⟩ => ⟨S1024x1, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg4_0 : Ref sig .tc := ⟨.smem, 0, rfl⟩
abbrev cc0_stg5_0 : Ref sig .tc := ⟨.smem, 1, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v151 : BitVec 1 := Scalar.cmpi .eq arg0 c15_i32
  let v152 : BitVec 32 := Scalar.extui v151
  let c0_i32_26 : BitVec 32 := 0#32
  let v153 : BitVec 1 := Scalar.cmpi .ne v152 c0_i32_26
  v153

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S16384x1024 : Shape := ⟨2, ![16384, 1024]⟩
abbrev S1 : Shape := ⟨1, ![1]⟩
abbrev S1x1 : Shape := ⟨2, ![1, 1]⟩
abbrev S16x1024 : Shape := ⟨2, ![16, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1x1024, .f32⟩
  | .hbm, ⟨13, _⟩ => ⟨S64x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .i32⟩
  | .hbm, ⟨23, _⟩ => ⟨S_, .f32⟩
  | .hbm, ⟨24, _⟩ => ⟨S_, .i32⟩
  | .hbm, ⟨25, _⟩ => ⟨S16384, .f32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16x32x32x64, .f32⟩
  | .hbm, ⟨51, _⟩ => ⟨S16x64x32x32, .f32⟩
  | .hbm, ⟨52, _⟩ => ⟨S16x64x32x32, .f32⟩
  | .hbm, ⟨53, _⟩ => ⟨S16x64x32x32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x64x32x32, .f32⟩
  | .hbm, ⟨61, _⟩ => ⟨S16x64x32x32, .f32⟩
  | .hbm, ⟨62, _⟩ => ⟨S16384x1, .i32⟩
  | .hbm, ⟨63, _⟩ => ⟨S1x1024, .i32⟩
  | .hbm, ⟨64, _⟩ => ⟨S16384x1024, .i32⟩
  | .hbm, ⟨65, _⟩ => ⟨S16384x1024, .i32⟩
  | .hbm, ⟨66, _⟩ => ⟨S16384x1024, .i1⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x1024, .i32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_8 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]
-- ==== Proof.Vq.RefValues.lean ====
/-
  What the reference program computes, operation by operation, as functions of its two arguments: the distances
  between every position of the input and every codebook vector, the nearest codebook vector of each position, the
  codebook vectors gathered there, and from these the four results. For any float values.
-/
module

public import proofs.«01_k».proof.Proof.Gen.ReferenceIdeal

@[expose] public section

noncomputable section

namespace Cert.Vq.Ref

open Cert.ReferenceIdeal Cert.ReferenceIdeal.Gen
open Idealize.ShloMosaic

variable {F : FTy → Type} [FloatOps F]

/-- The input with one row per position and one column per channel. -/
def flat (x : FVec F S16x64x32x32 .f32) : FVec F S16384x64 .f32 :=
  shapeCast S16384x64 (transpose S16x32x32x64 [0, 2, 3, 1] x Facts₀.transposes_S16x64x32x32_S16x32x32x64_0_2_3_1)
    Facts₀.shapeCasts_S16x32x32x64_S16384x64

/-- The squared lengths of the positions, along the codebook. -/
def sqFlat (x : FVec F S16x64x32x32 .f32) : FVec F S16384x1024 .f32 :=
  broadcastInDim S16384x1024 ![0, 1] Facts₀.bcast_S16384x1_S16384x1024_0_1
    (broadcastInDim S16384x1 ![0] Facts₀.bcast_S16384_S16384x1_0
      (Host.reduceAdd (mulf (flat x) (flat x)) (constant S_ .f32 0x00000000#32)
        Facts₀.reducesTo_S16384x64_S16384_d1 Facts₀.h_S_))

/-- The squared lengths of the codebook vectors, along the positions. -/
def sqEmb (e : FVec F S1024x64 .f32) : FVec F S16384x1024 .f32 :=
  broadcastInDim S16384x1024 ![0, 1] Facts₀.bcast_S1x1024_S16384x1024_0_1
    (transpose S1x1024 [1, 0]
      (broadcastInDim S1024x1 ![0] Facts₀.bcast_S1024_S1024x1_0
        (Host.reduceAdd (mulf e e) (constant S_ .f32 0x00000000#32)
          Facts₀.reducesTo_S1024x64_S1024_d1 Facts₀.h_S_))
      Facts₀.transposes_S1024x1_S1x1024_1_0)

/-- Every position times every codebook vector. -/
def products (x : FVec F S16x64x32x32 .f32) (e : FVec F S1024x64 .f32) : FVec F S16384x1024 .f32 :=
  Host.dotGeneral dot_S16384x64_S64x1024_S16384x1024_1_0_0_1_n_n none (flat x)
    (transpose S64x1024 [1, 0] e Facts₀.transposes_S1024x64_S64x1024_1_0)

/-- The squared distances, a row per position and a column per codebook vector. -/
def dist (x : FVec F S16x64x32x32 .f32) (e : FVec F S1024x64 .f32) : FVec F S16384x1024 .f32 :=
  subf (addf (sqFlat x) (sqEmb e))
    (mulf (broadcastInDim S16384x1024 ![] Facts₀.bcast_S_S16384x1024 (constant S_ .f32 0x40000000#32)) (products x e))

/-- The column of the smallest entry of each row. -/
def argmin (d : FVec F S16384x1024 .f32) : IVec S16384 32 := fun j =>
  (Host.argReduce reducer_argmin_f32_i32 d (iotaInDim S16384x1024 32 1) (constant S_ .f32 0x7F800000#32)
    (constantI S_ 32 0#32) Facts₀.reducesTo_S16384x1024_S16384_d1 Facts₀.h_S_ j).2

/-- The row numbers `take` reads: a negative one counted from the end. -/
def rows (i : IVec S16384 32) : IVec S16384x1 32 :=
  broadcastInDim S16384x1 ![0] Facts₀.bcast_S16384_S16384x1_0
    (select (cmpi .slt i (broadcastInDim S16384 ![] Facts₀.bcast_S_S16384 (constantI S_ 32 0#32)))
      (addi i (broadcastInDim S16384 ![] Facts₀.bcast_S_S16384 (constantI S_ 32 1024#32))) i)

/-- Which of those row numbers lie inside the codebook. -/
def inside (i : IVec S16384 32) : IVec S16384 1 :=
  Host.reduce IntOp.andi
    (andi (cmpi .sge (rows i) (broadcastInDim S16384x1 ![] Facts₀.bcast_S_S16384x1 (constantI S_ 32 0#32)))
      (cmpi .sle (rows i) (broadcastInDim S16384x1 ![0, 1] Facts₀.bcast_S1x1_S16384x1_0_1
        (broadcastInDim S1x1 ![1] Facts₀.bcast_S1_S1x1_1 (constantI S1 32 1023#32)))))
    (constantI S_ 1 1#1) Facts₀.reducesTo_S16384x1_S16384_d1 Facts₀.h_S_

/-- The codebook vectors at the row numbers. -/
def taken (e : FVec F S1024x64 .f32) (i : IVec S16384 32) : FVec F S16384x64 .f32 :=
  select (broadcastInDim S16384x64 ![0] Facts₀.bcast_S16384_S16384x64_0 (inside i))
    (Host.gather gather_S1024x64_S16384x1_S16384x64_1_0_n_n_0_1_164 e (rows i))
    (broadcastInDim S16384x64 ![] Facts₀.bcast_S_S16384x64 (constant S_ .f32 0x7FC00000#32))

/-- Rows of channels put back in the input's layout. -/
def unflat (q : FVec F S16384x64 .f32) : FVec F S16x64x32x32 .f32 :=
  transpose S16x64x32x32 [0, 3, 1, 2] (shapeCast S16x32x32x64 q Facts₀.shapeCasts_S16384x64_S16x32x32x64)
    Facts₀.transposes_S16x32x32x64_S16x64x32x32_0_3_1_2

/-- The quantised input, as the straight-through sum. -/
def quantOf (x q : FVec F S16x64x32x32 .f32) : FVec F S16x64x32x32 .f32 := addf x (subf q x)

/-- The commitment loss of an input and its quantisation. -/
def lossOf (x q : FVec F S16x64x32x32 .f32) : FVec F S_ .f32 :=
  mulf (constant S_ .f32 0x3E800000#32)
    (Host.divf (Host.reduceAdd (mulf (subf x q) (subf x q)) (constant S_ .f32 0x00000000#32)
      Facts₀.reducesTo_S16x64x32x32_S_d0_1_2_3 Facts₀.h_S_) (constant S_ .f32 0x49800000#32))

/-- One at the nearest codebook vector of a position, zero elsewhere. -/
def oneHot (i : IVec S16384 32) : FVec F S16384x1024 .f32 :=
  uitofp .f32 (cmpi .eq
    (broadcastInDim S16384x1024 ![0, 1] Facts₀.bcast_S16384x1_S16384x1024_0_1
      (broadcastInDim S16384x1 ![0] Facts₀.bcast_S16384_S16384x1_0 i))
    (broadcastInDim S16384x1024 ![0, 1] Facts₀.bcast_S1x1024_S16384x1024_0_1 (iotaInDim S1x1024 32 1)))

/-- The share of the positions that chose each codebook vector. -/
def share (i : IVec S16384 32) : FVec F S1024 .f32 :=
  Host.divf (Host.reduceAdd (oneHot i) (constant S_ .f32 0x00000000#32) Facts₀.reducesTo_S16384x1024_S1024_d0 Facts₀.h_S_)
    (broadcastInDim S1024 ![] Facts₀.bcast_S_S1024 (constant S_ .f32 0x46800000#32))

/-- The perplexity of the choice. -/
def perpOf (i : IVec S16384 32) : FVec F S_ .f32 :=
  Host.exp (Host.negf (Host.reduceAdd
    (mulf (share i) (Host.log (addf (share i)
      (broadcastInDim S1024 ![] Facts₀.bcast_S_S1024 (constant S_ .f32 0x2EDBE6FF#32)))))
    (constant S_ .f32 0x00000000#32) Facts₀.reducesTo_S1024_S_d0 Facts₀.h_S_))

/-- The chosen codebook vectors' numbers, a row per image. -/
def idxOf (i : IVec S16384 32) : IVec S16x1024 32 := shapeCast S16x1024 i Facts₀.shapeCasts_S16384_S16x1024

/-- The nearest codebook vector of each position. -/
def nearest (x : FVec F S16x64x32x32 .f32) (e : FVec F S1024x64 .f32) : IVec S16384 32 := argmin (dist x e)

/-- The codebook vectors nearest to the positions, in the input's layout. -/
def chosen (x : FVec F S16x64x32x32 .f32) (e : FVec F S1024x64 .f32) : FVec F S16x64x32x32 .f32 :=
  unflat (taken e (nearest x e))

end Cert.Vq.Ref

end
-- ==== Proof.Vq.RefRun.lean ====
/-
  The run of the reference: @main is a line of host operations, so every run ends, with the four results at the
  functions of RefValues.lean and the arguments unchanged. The line is cut in five, each read on its own.
-/
module

public import proofs.«01_k».proof.Proof.Vq.RefValues
public import Idealize.ShloMosaic.Lib.StableHlo.Run
public import Idealize.ShloMosaic.Lib.StableHlo.RunRead
public import Idealize.ShloMosaic.Lib.Pipeline.Frame
public import Idealize.ShloMosaic.Lib.Quiescent

@[expose] public section

noncomputable section

namespace Cert.Vq.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations that compute the distances. -/
abbrev opsDist : List (HloOp τ sig (Elt F)) :=
  [ unary main_arg0 main_v0 (transpose S16x32x32x64 [0, 2, 3, 1] · transposes_S16x64x32x32_S16x32x32x64_0_2_3_1),
    reshape main_v0 main_v1 (rfl : (.f32 : EltTy) = .f32) shapeCasts_S16x32x32x64_S16384x64,
    binary main_v1 main_v1 main_v2 mulf,
    nullary main_cst (constant S_ .f32 0x00000000#32),
    binary main_v2 main_cst main_v3 (fun x v => Host.reduceAdd x v reducesTo_S16384x64_S16384_d1 h_S_),
    unary main_v3 main_v4 (broadcastInDim S16384x1 ![0] bcast_S16384_S16384x1_0),
    binary main_arg1 main_arg1 main_v5 mulf,
    nullary main_cst_0 (constant S_ .f32 0x00000000#32),
    binary main_v5 main_cst_0 main_v6 (fun x v => Host.reduceAdd x v reducesTo_S1024x64_S1024_d1 h_S_),
    unary main_v6 main_v7 (broadcastInDim S1024x1 ![0] bcast_S1024_S1024x1_0),
    unary main_v7 main_v8 (transpose S1x1024 [1, 0] · transposes_S1024x1_S1x1024_1_0),
    unary main_arg1 main_v9 (transpose S64x1024 [1, 0] · transposes_S1024x64_S64x1024_1_0),
    binary main_v1 main_v9 main_v10 (fun l r => Host.dotGeneral dot_S16384x64_S64x1024_S16384x1024_1_0_0_1_n_n none l r),
    unary main_v4 main_v11 (broadcastInDim S16384x1024 ![0, 1] bcast_S16384x1_S16384x1024_0_1),
    unary main_v8 main_v12 (broadcastInDim S16384x1024 ![0, 1] bcast_S1x1024_S16384x1024_0_1),
    binary main_v11 main_v12 main_v13 addf,
    nullary main_cst_1 (constant S_ .f32 0x40000000#32),
    unary main_cst_1 main_v14 (broadcastInDim S16384x1024 ![] bcast_S_S16384x1024),
    binary main_v14 main_v10 main_v15 mulf,
    binary main_v13 main_v15 main_v16 subf ]

/-- The operations that compute the nearest codebook vectors. -/
abbrev opsArgmin : List (HloOp τ sig (Elt F)) :=
  [ nullary main_call0_v0 (iotaInDim S16384x1024 32 1),
    nullary main_call0_cst (constant S_ .f32 0x7F800000#32),
    nullary main_call0_c (constantI S_ 32 0#32),
    quaternary main_v16 main_call0_v0 main_call0_cst main_call0_c main_call0_v1_0 (fun x y u v j => (Host.argReduce reducer_argmin_f32_i32 x y u v reducesTo_S16384x1024_S16384_d1 h_S_ j).1),
    quaternary main_v16 main_call0_v0 main_call0_cst main_call0_c main_v17 (fun x y u v j => (Host.argReduce reducer_argmin_f32_i32 x y u v reducesTo_S16384x1024_S16384_d1 h_S_ j).2) ]

/-- The operations that compute the codebook vectors gathered. -/
abbrev opsTake : List (HloOp τ sig (Elt F)) :=
  [ nullary main_call1_c (constantI S_ 32 0#32),
    unary main_call1_c main_call1_v0 (broadcastInDim S16384 ![] bcast_S_S16384),
    binary main_v17 main_call1_v0 main_call1_v1 (cmpi .slt),
    nullary main_call1_c_0 (constantI S_ 32 1024#32),
    unary main_call1_c_0 main_call1_v2 (broadcastInDim S16384 ![] bcast_S_S16384),
    binary main_v17 main_call1_v2 main_call1_v3 addi,
    ternary main_call1_v1 main_call1_v3 main_v17 main_call1_v4 select,
    unary main_call1_v4 main_call1_v5 (broadcastInDim S16384x1 ![0] bcast_S16384_S16384x1_0),
    nullary main_call1_c_1 (constantI S1 32 1023#32),
    nullary main_call1_c_2 (constantI S_ 32 0#32),
    unary main_call1_c_2 main_call1_v6 (broadcastInDim S16384x1 ![] bcast_S_S16384x1),
    binary main_call1_v5 main_call1_v6 main_call1_v7 (cmpi .sge),
    unary main_call1_c_1 main_call1_v8 (broadcastInDim S1x1 ![1] bcast_S1_S1x1_1),
    unary main_call1_v8 main_call1_v9 (broadcastInDim S16384x1 ![0, 1] bcast_S1x1_S16384x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16384x1_S16384_d1 h_S_),
    binary main_arg1 main_call1_v5 main_call1_v13 (fun x i => Host.gather gather_S1024x64_S16384x1_S16384x64_1_0_n_n_0_1_164 x i),
    unary main_call1_v12 main_call1_v14 (broadcastInDim S16384x64 ![0] bcast_S16384_S16384x64_0),
    nullary main_call1_cst (constant S_ .f32 0x7FC00000#32),
    unary main_call1_cst main_call1_v15 (broadcastInDim S16384x64 ![] bcast_S_S16384x64),
    ternary main_call1_v14 main_call1_v13 main_call1_v15 main_v18 select ]

/-- The operations that compute the quantised input and the loss. -/
abbrev opsLoss : List (HloOp τ sig (Elt F)) :=
  [ reshape main_v18 main_v19 (rfl : (.f32 : EltTy) = .f32) shapeCasts_S16384x64_S16x32x32x64,
    unary main_v19 main_v20 (transpose S16x64x32x32 [0, 3, 1, 2] · transposes_S16x32x32x64_S16x64x32x32_0_3_1_2),
    binary main_arg0 main_v20 main_v21 subf,
    binary main_v21 main_v21 main_v22 mulf,
    nullary main_cst_2 (constant S_ .f32 0x00000000#32),
    binary main_v22 main_cst_2 main_v23 (fun x v => Host.reduceAdd x v reducesTo_S16x64x32x32_S_d0_1_2_3 h_S_),
    nullary main_cst_3 (constant S_ .f32 0x49800000#32),
    binary main_v23 main_cst_3 main_v24 Host.divf,
    nullary main_cst_4 (constant S_ .f32 0x3E800000#32),
    binary main_cst_4 main_v24 main_v25 mulf,
    binary main_v20 main_arg0 main_v26 subf,
    binary main_arg0 main_v26 main_v27 addf ]

/-- The operations that compute the perplexity and the numbers by image. -/
abbrev opsPerp : List (HloOp τ sig (Elt F)) :=
  [ unary main_v17 main_call2_v0 (broadcastInDim S16384x1 ![0] bcast_S16384_S16384x1_0),
    nullary main_call2_v1 (iotaInDim S1x1024 32 1),
    unary main_call2_v0 main_call2_v2 (broadcastInDim S16384x1024 ![0, 1] bcast_S16384x1_S16384x1024_0_1),
    unary main_call2_v1 main_call2_v3 (broadcastInDim S16384x1024 ![0, 1] bcast_S1x1024_S16384x1024_0_1),
    binary main_call2_v2 main_call2_v3 main_call2_v4 (cmpi .eq),
    unary main_call2_v4 main_v28 (uitofp .f32),
    nullary main_cst_5 (constant S_ .f32 0x00000000#32),
    binary main_v28 main_cst_5 main_v29 (fun x v => Host.reduceAdd x v reducesTo_S16384x1024_S1024_d0 h_S_),
    nullary main_cst_6 (constant S_ .f32 0x46800000#32),
    unary main_cst_6 main_v30 (broadcastInDim S1024 ![] bcast_S_S1024),
    binary main_v29 main_v30 main_v31 Host.divf,
    nullary main_cst_7 (constant S_ .f32 0x2EDBE6FF#32),
    unary main_cst_7 main_v32 (broadcastInDim S1024 ![] bcast_S_S1024),
    binary main_v31 main_v32 main_v33 addf,
    unary main_v33 main_v34 Host.log,
    binary main_v31 main_v34 main_v35 mulf,
    nullary main_cst_8 (constant S_ .f32 0x00000000#32),
    binary main_v35 main_cst_8 main_v36 (fun x v => Host.reduceAdd x v reducesTo_S1024_S_d0 h_S_),
    unary main_v36 main_v37 Host.negf,
    unary main_v37 main_v38 Host.exp,
    reshape main_v17 main_v39 (rfl : (.i32 : EltTy) = .i32) shapeCasts_S16384_S16x1024 ]

/-- @main's operations, in order. -/
abbrev ops : List (HloOp τ sig (Elt F)) := opsDist ++ (opsArgmin ++ (opsTake ++ (opsLoss ++ opsPerp)))

set_option maxRecDepth 65536 in
/-- @main is that line. -/
theorem main_eq (c : Dev nD) : main (F := F) c = seq ops := rfl

/-- Nothing is scoped on this signature. -/
theorem noScopedRefs : (Finset.univ.filter fun b : Ref sig .tc => b.isScoped) = ∅ := by decide
/-- No semaphore is scoped either. -/
theorem noScopedSems : (Finset.univ.filter fun sm : SemLoc sig => sm.isScoped .tc) = ∅ := by decide

/-- Every operation touches the TensorCore's references only. -/
theorem ops_sub : (ops : List (HloOp τ sig (Elt F))).Forall fun op => op.bufs ⊆ tcRefs τ sig := by
  simp

/-- The distances, and what they are computed from. -/
theorem dist_read (V : Valuation τ sig (Elt F)) :
    after opsDist V (main_v16 : DevRef τ sig) = dist (V (main_arg0 : DevRef τ sig)) (V (main_arg1 : DevRef τ sig)) := by
  unfold opsDist
  after_results
  rfl

/-- The nearest codebook vectors, from the distances. -/
theorem argmin_read (V : Valuation τ sig (Elt F)) :
    after opsArgmin V (main_v17 : DevRef τ sig) = argmin (V (main_v16 : DevRef τ sig)) := by
  unfold opsArgmin
  after_results
  rfl

/-- The codebook vectors gathered, from the codebook and the numbers. -/
theorem take_read (V : Valuation τ sig (Elt F)) :
    after opsTake V (main_v18 : DevRef τ sig) = taken (V (main_arg1 : DevRef τ sig)) (V (main_v17 : DevRef τ sig)) := by
  unfold opsTake
  after_results
  rfl

/-- The quantised input, from the input and the gathered vectors. -/
theorem quant_read (V : Valuation τ sig (Elt F)) :
    after opsLoss V (main_v27 : DevRef τ sig)
      = quantOf (V (main_arg0 : DevRef τ sig)) (unflat (V (main_v18 : DevRef τ sig))) := by
  unfold opsLoss
  after_results
  rfl

/-- The loss, from the same two. -/
theorem loss_read (V : Valuation τ sig (Elt F)) :
    after opsLoss V (main_v25 : DevRef τ sig)
      = lossOf (V (main_arg0 : DevRef τ sig)) (unflat (V (main_v18 : DevRef τ sig))) := by
  unfold opsLoss
  after_results
  rfl

/-- The perplexity, from the numbers. -/
theorem perp_read (V : Valuation τ sig (Elt F)) :
    after opsPerp V (main_v38 : DevRef τ sig) = perpOf (V (main_v17 : DevRef τ sig)) := by
  unfold opsPerp
  after_results
  rfl

/-- The numbers by image. -/
theorem idx_read (V : Valuation τ sig (Elt F)) :
    after opsPerp V (main_v39 : DevRef τ sig) = idxOf (V (main_v17 : DevRef τ sig)) := by
  unfold opsPerp
  after_results
  rfl

/-- The stretch of the distances leaves the latents as found. -/
theorem keepDist_arg0 (V : Valuation τ sig (Elt F)) :
    after opsDist V (main_arg0 : DevRef τ sig) = V (main_arg0 : DevRef τ sig) := by
  unfold opsDist
  after_results

/-- The stretch of the distances leaves the codebook as found. -/
theorem keepDist_arg1 (V : Valuation τ sig (Elt F)) :
    after opsDist V (main_arg1 : DevRef τ sig) = V (main_arg1 : DevRef τ sig) := by
  unfold opsDist
  after_results

/-- The stretch of the nearest indices leaves the latents as found. -/
theorem keepArgmin_arg0 (V : Valuation τ sig (Elt F)) :
    after opsArgmin V (main_arg0 : DevRef τ sig) = V (main_arg0 : DevRef τ sig) := by
  unfold opsArgmin
  after_results

/-- The stretch of the nearest indices leaves the codebook as found. -/
theorem keepArgmin_arg1 (V : Valuation τ sig (Elt F)) :
    after opsArgmin V (main_arg1 : DevRef τ sig) = V (main_arg1 : DevRef τ sig) := by
  unfold opsArgmin
  after_results

/-- The stretch of the gathering leaves the latents as found. -/
theorem keepTake_arg0 (V : Valuation τ sig (Elt F)) :
    after opsTake V (main_arg0 : DevRef τ sig) = V (main_arg0 : DevRef τ sig) := by
  unfold opsTake
  after_results

/-- The stretch of the gathering leaves the codebook as found. -/
theorem keepTake_arg1 (V : Valuation τ sig (Elt F)) :
    after opsTake V (main_arg1 : DevRef τ sig) = V (main_arg1 : DevRef τ sig) := by
  unfold opsTake
  after_results

/-- The stretch of the gathering leaves the nearest indices as found. -/
theorem keepTake_v17 (V : Valuation τ sig (Elt F)) :
    after opsTake V (main_v17 : DevRef τ sig) = V (main_v17 : DevRef τ sig) := by
  unfold opsTake
  after_results

/-- The stretch of the loss and the quantised latents leaves the latents as found. -/
theorem keepLoss_arg0 (V : Valuation τ sig (Elt F)) :
    after opsLoss V (main_arg0 : DevRef τ sig) = V (main_arg0 : DevRef τ sig) := by
  unfold opsLoss
  after_results

/-- The stretch of the loss and the quantised latents leaves the codebook as found. -/
theorem keepLoss_arg1 (V : Valuation τ sig (Elt F)) :
    after opsLoss V (main_arg1 : DevRef τ sig) = V (main_arg1 : DevRef τ sig) := by
  unfold opsLoss
  after_results

/-- The stretch of the loss and the quantised latents leaves the nearest indices as found. -/
theorem keepLoss_v17 (V : Valuation τ sig (Elt F)) :
    after opsLoss V (main_v17 : DevRef τ sig) = V (main_v17 : DevRef τ sig) := by
  unfold opsLoss
  after_results

/-- The stretch of the perplexity leaves the latents as found. -/
theorem keepPerp_arg0 (V : Valuation τ sig (Elt F)) :
    after opsPerp V (main_arg0 : DevRef τ sig) = V (main_arg0 : DevRef τ sig) := by
  unfold opsPerp
  after_results

/-- The stretch of the perplexity leaves the codebook as found. -/
theorem keepPerp_arg1 (V : Valuation τ sig (Elt F)) :
    after opsPerp V (main_arg1 : DevRef τ sig) = V (main_arg1 : DevRef τ sig) := by
  unfold opsPerp
  after_results

/-- The stretch of the perplexity leaves the quantised latents as found. -/
theorem keepPerp_v27 (V : Valuation τ sig (Elt F)) :
    after opsPerp V (main_v27 : DevRef τ sig) = V (main_v27 : DevRef τ sig) := by
  unfold opsPerp
  after_results

/-- The stretch of the perplexity leaves the loss as found. -/
theorem keepPerp_v25 (V : Valuation τ sig (Elt F)) :
    after opsPerp V (main_v25 : DevRef τ sig) = V (main_v25 : DevRef τ sig) := by
  unfold opsPerp
  after_results

/-- The line's contents, cut. -/
theorem after_ops (V : Valuation τ sig (Elt F)) :
    after ops V = after opsPerp (after opsLoss (after opsTake (after opsArgmin (after opsDist V)))) := by
  unfold ops
  rw [after_append, after_append, after_append, after_append]

/-- Every run of the reference ends: with the four results at their values, the arguments unchanged, and every counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq noScopedRefs noScopedSems defs main (fun _ => ops) main_eq (fun _ => ops_sub) m ρ
    (fun _ => List.forall_iff_forall_mem.mp (forall_fresh_of_map rfl))

/-- The arguments keep their contents, whatever they are. -/
theorem keep_arg0 (V : Valuation τ sig (Elt F)) : after ops V (main_arg0 : DevRef τ sig) = V (main_arg0 : DevRef τ sig) := by
  rw [after_ops, keepPerp_arg0, keepLoss_arg0, keepTake_arg0, keepArgmin_arg0, keepDist_arg0]
/-- So does the codebook. -/
theorem keep_arg1 (V : Valuation τ sig (Elt F)) : after ops V (main_arg1 : DevRef τ sig) = V (main_arg1 : DevRef τ sig) := by
  rw [after_ops, keepPerp_arg1, keepLoss_arg1, keepTake_arg1, keepArgmin_arg1, keepDist_arg1]

/-- The quantised input, of the arguments. -/
theorem quant_eq (V : Valuation τ sig (Elt F)) : after ops V (main_v27 : DevRef τ sig)
    = quantOf (V (main_arg0 : DevRef τ sig)) (chosen (V (main_arg0 : DevRef τ sig)) (V (main_arg1 : DevRef τ sig))) := by
  rw [after_ops, keepPerp_v27, quant_read, keepTake_arg0, keepArgmin_arg0, keepDist_arg0, take_read, keepArgmin_arg1,
    keepDist_arg1, argmin_read, dist_read]
  rfl

/-- The loss, of the arguments. -/
theorem loss_eq (V : Valuation τ sig (Elt F)) : after ops V (main_v25 : DevRef τ sig)
    = lossOf (V (main_arg0 : DevRef τ sig)) (chosen (V (main_arg0 : DevRef τ sig)) (V (main_arg1 : DevRef τ sig))) := by
  rw [after_ops, keepPerp_v25, loss_read, keepTake_arg0, keepArgmin_arg0, keepDist_arg0, take_read, keepArgmin_arg1,
    keepDist_arg1, argmin_read, dist_read]
  rfl

/-- The perplexity, of the arguments. -/
theorem perp_eq (V : Valuation τ sig (Elt F)) : after ops V (main_v38 : DevRef τ sig)
    = perpOf (nearest (V (main_arg0 : DevRef τ sig)) (V (main_arg1 : DevRef τ sig))) := by
  rw [after_ops, perp_read, keepLoss_v17, keepTake_v17, argmin_read, dist_read]
  rfl

/-- The numbers by image, of the arguments. -/
theorem idx_eq (V : Valuation τ sig (Elt F)) : after ops V (main_v39 : DevRef τ sig)
    = idxOf (nearest (V (main_arg0 : DevRef τ sig)) (V (main_arg1 : DevRef τ sig))) := by
  rw [after_ops, idx_read, keepLoss_v17, keepTake_v17, argmin_read, dist_read]
  rfl

/-- Every run of the reference ends with its four results at these functions of its arguments, the arguments unchanged. -/
theorem run_results (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v27)
          = quantOf (m ((c.tc : Thread nD τ).loc main_arg0)) (chosen (m ((c.tc : Thread nD τ).loc main_arg0)) (m ((c.tc : Thread nD τ).loc main_arg1)))
        ∧ r.2.mem ((c.tc : Thread nD τ).loc main_v25)
          = lossOf (m ((c.tc : Thread nD τ).loc main_arg0)) (chosen (m ((c.tc : Thread nD τ).loc main_arg0)) (m ((c.tc : Thread nD τ).loc main_arg1)))
        ∧ r.2.mem ((c.tc : Thread nD τ).loc main_v38)
          = perpOf (nearest (m ((c.tc : Thread nD τ).loc main_arg0)) (m ((c.tc : Thread nD τ).loc main_arg1)))
        ∧ r.2.mem ((c.tc : Thread nD τ).loc main_v39)
          = idxOf (nearest (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run (defs (F := F)) _ _).mono (fun _ h c => ⟨(h c main_v27).trans (quant_eq _), (h c main_v25).trans (loss_eq _),
    (h c main_v38).trans (perp_eq _), (h c main_v39).trans (idx_eq _), (h c main_arg0).trans (keep_arg0 _),
    (h c main_arg1).trans (keep_arg1 _)⟩) (run_main m ρ)

/-- Every run of the reference ends with the arguments unchanged and every counter at zero: it has no semaphore. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun r h => ⟨fun c => ⟨(h c).2.2.2.2.1, (h c).2.2.2.2.2⟩,
    sem_eq_zero_of_no_sems rfl r.2⟩) (run_results m ρ)

end Cert.Vq.Ref

end
-- ==== Proof.Vq.Body.lean ====
/-
  One step of the kernel's body as functions: from the step's image `x`, the codebook `e`, and what the scratch holds —
  the codebook's squared lengths `sse`, the row numbers `iif` and the codebook times minus two `m2e` — the step's
  quantised image and numbers, and the counts and the loss after it. For any float values.
-/
module

public import proofs.«01_k».proof.Proof.Gen.KernelIdeal.Skeleton
public import Idealize.ShloMosaic.Lib.ValueIdxCore
public import Idealize.ShloMosaic.Lib.Pipeline.Value

@[expose] public section

noncomputable section

namespace Cert.Vq.Ker

open Cert.KernelIdeal Cert.KernelIdeal.Gen
open Idealize.ShloMosaic Idealize.ShloMosaic.ValueIdx

variable {F : FTy → Type} [FloatOps F]

/-- A load of a one-word buffer reads its word. -/
theorem ld_word (X : Vec F S1 .f32) (h : 0 < S1.numel) :
    View.ld X (Rect.unit (s := S1) ![0] ![1] inb_S1_S1_0) (Shape.Idx.first h) = X (ix1 0) := by
  rw [View.ld_unit_zero (S := S1) (off := ![0]) (by decide)]
  exact congrArg X (funext fun a => match a with | ⟨0, _⟩ => Subsingleton.elim (α := Fin 1) _ _)

/-- The four candidates left of the distances in each column. -/
def best4 (x : Vec F S1x64x1024 .f32) (sse : Vec F S1024x1024 .f32) (m2e : Vec F S1024x64 .f32) : FVec F S4x1024 .f32 :=
  k0_pay26 (k0_pay14 x m2e sse)

/-- The numbers of those four. -/
def num4 (x : Vec F S1x64x1024 .f32) (sse iif : Vec F S1024x1024 .f32) (m2e : Vec F S1024x64 .f32) : FVec F S4x1024 .f32 :=
  k0_pay27 (k0_pay12 x m2e sse iif) (k0_pay13 x m2e sse) (k0_pay14 x m2e sse)

/-- Which of the first and third, and of the second and fourth, is kept. -/
def keep2 (x : Vec F S1x64x1024 .f32) (sse : Vec F S1024x1024 .f32) (m2e : Vec F S1024x64 .f32) : IVec S2x1024 1 :=
  k0_pay28 (k0_pay14 x m2e sse)

/-- The quantised image. -/
def quantB (x : Vec F S1x64x1024 .f32) (e : Vec F S1024x64 .f32) (sse iif : Vec F S1024x1024 .f32)
    (m2e : Vec F S1024x64 .f32) : Vec F S1x64x1024 .f32 :=
  k0_pay33 (k0_pay8 x) iif (best4 x sse m2e) (num4 x sse iif m2e) (keep2 x sse m2e) e

/-- The numbers of the nearest codebook vectors. -/
def idxB (x : Vec F S1x64x1024 .f32) (sse iif : Vec F S1024x1024 .f32) (m2e : Vec F S1024x64 .f32) : Vec F S1x1x1024 .i32 :=
  k0_pay34 (best4 x sse m2e) (num4 x sse iif m2e) (keep2 x sse m2e)

/-- The counts after the step. -/
def countB (x : Vec F S1x64x1024 .f32) (sse iif : Vec F S1024x1024 .f32) (m2e : Vec F S1024x64 .f32)
    (cnt : Vec F S1024x1 .f32) : Vec F S1024x1 .f32 :=
  k0_pay35 iif (best4 x sse m2e) (num4 x sse iif m2e) (keep2 x sse m2e) cnt

/-- The loss after the step. -/
def lossB (x : Vec F S1x64x1024 .f32) (sse : Vec F S1024x1024 .f32) (m2e : Vec F S1024x64 .f32) (l : F .f32) : F .f32 :=
  k0_pay1 l (k0_pay36 (best4 x sse m2e) (keep2 x sse m2e))

end Cert.Vq.Ker

end
-- ==== Proof.Vq.PieceA.lean ====
/-
  What one run of the body leaves in each output and in each scratch, in case A of its conditionals (the first step):
  the functions of Body.lean at the input blocks and the scratch's contents before it.
-/
module

public import proofs.«01_k».proof.Proof.Vq.Body
public import proofs.«01_k».proof.Proof.Gen.KernelIdeal.Frame
public import Idealize.ShloMosaic.Lib.ValueIdxCore
public import Idealize.ShloMosaic.Lib.Pipeline.Value

@[expose] public section

set_option maxRecDepth 16384

noncomputable section

namespace Cert.Vq.Ker

open Cert.KernelIdeal Cert.KernelIdeal.Gen
open Idealize.ShloMosaic Idealize.ShloMosaic.ValueIdx Idealize.ShloMosaic.TcCoe Idealize.ShloMosaic.Tactic

variable {F : FTy → Type} [FloatOps F]

variable (c : Dev nD) (i : grid0.Coords) (arg1 : Memref sig .tc .vmem S1x64x1024 .f32) (harg1 : arg1.IsWhole) (arg2 : Memref sig .tc .vmem S1024x64 .f32) (harg2 : arg2.IsWhole) (arg3 : Memref sig .tc .vmem S1x64x1024 .f32) (harg3 : arg3.IsWhole) (arg4 : Memref sig .tc .vmem S1x1x1024 .i32) (harg4 : arg4.IsWhole) (arg5 : Memref sig .tc .smem S1 .f32) (harg5 : arg5.IsWhole) (arg6 : Memref sig .tc .smem S1 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x64 .f32) (harg9 : arg9.IsWhole) (arg10 : Memref sig .tc .vmem S1024x1 .f32) (harg10 : arg10.IsWhole) (arg11 : Memref sig .tc .smem S1 .f32) (harg11 : arg11.IsWhole)

/-- The quantised image. -/
theorem out0_A_2_eq (hc0 : cond0_0 i) (hc1 : ¬cond0_1 i) (x0 : Vec F S1x64x1024 .f32) (x1 : Vec F S1024x64 .f32) :
    out0_A_2 c i arg1 harg1 arg2 harg2 arg3 harg3 arg4 harg4 arg5 harg5 arg6 harg6 arg7 harg7 arg8 harg8 arg9 harg9 arg10 harg10 arg11 harg11 hc0 hc1 x0 x1 = quantB x0 x1 (k0_pay5 x1) (k0_pay6 (F := F)) (k0_pay4 x1) := by
  unfold out0_A_2
  rw [View.read_writes_eq_canon _ _ _ (cover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The numbers. -/
theorem out0_A_3_eq (hc0 : cond0_0 i) (hc1 : ¬cond0_1 i) (x0 : Vec F S1x64x1024 .f32) (x1 : Vec F S1024x64 .f32) :
    out0_A_3 c i arg1 harg1 arg2 harg2 arg3 harg3 arg4 harg4 arg5 harg5 arg6 harg6 arg7 harg7 arg8 harg8 arg9 harg9 arg10 harg10 arg11 harg11 hc0 hc1 x0 x1 = idxB x0 (k0_pay5 x1) (k0_pay6 (F := F)) (k0_pay4 x1) := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The squared lengths. -/
theorem sout0_A_0_eq (hc0 : cond0_0 i) (hc1 : ¬cond0_1 i) (x0 : Vec F S1x64x1024 .f32) (x1 : Vec F S1024x64 .f32) :
    sout0_A_0 c i arg1 harg1 arg2 harg2 arg3 harg3 arg4 harg4 arg5 harg5 arg6 harg6 arg7 harg7 arg8 harg8 arg9 harg9 arg10 harg10 arg11 harg11 hc0 hc1 x0 x1 = k0_pay5 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The row numbers. -/
theorem sout0_A_1_eq (hc0 : cond0_0 i) (hc1 : ¬cond0_1 i) (x0 : Vec F S1x64x1024 .f32) (x1 : Vec F S1024x64 .f32) :
    sout0_A_1 c i arg1 harg1 arg2 harg2 arg3 harg3 arg4 harg4 arg5 harg5 arg6 harg6 arg7 harg7 arg8 harg8 arg9 harg9 arg10 harg10 arg11 harg11 hc0 hc1 x0 x1 = k0_pay6 (F := F) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The codebook times minus two. -/
theorem sout0_A_2_eq (hc0 : cond0_0 i) (hc1 : ¬cond0_1 i) (x0 : Vec F S1x64x1024 .f32) (x1 : Vec F S1024x64 .f32) :
    sout0_A_2 c i arg1 harg1 arg2 harg2 arg3 harg3 arg4 harg4 arg5 harg5 arg6 harg6 arg7 harg7 arg8 harg8 arg9 harg9 arg10 harg10 arg11 harg11 hc0 hc1 x0 x1 = k0_pay4 x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The counts. -/
theorem sout0_A_3_eq (hc0 : cond0_0 i) (hc1 : ¬cond0_1 i) (x0 : Vec F S1x64x1024 .f32) (x1 : Vec F S1024x64 .f32) :
    sout0_A_3 c i arg1 harg1 arg2 harg2 arg3 harg3 arg4 harg4 arg5 harg5 arg6 harg6 arg7 harg7 arg8 harg8 arg9 harg9 arg10 harg10 arg11 harg11 hc0 hc1 x0 x1 = countB x0 (k0_pay5 x1) (k0_pay6 (F := F)) (k0_pay4 x1) (k0_pay7 (F := F)) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The loss. -/
theorem sout0_A_4_eq (hc0 : cond0_0 i) (hc1 : ¬cond0_1 i) (x0 : Vec F S1x64x1024 .f32) (x1 : Vec F S1024x64 .f32) :
    sout0_A_4 c i arg1 harg1 arg2 harg2 arg3 harg3 arg4 harg4 arg5 harg5 arg6 harg6 arg7 harg7 arg8 harg8 arg9 harg9 arg10 harg10 arg11 harg11 hc0 hc1 x0 x1 = fun _ => lossB x0 (k0_pay5 x1) (k0_pay4 x1) (Scalar.ofBits .f32 0x00000000#32) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

end Cert.Vq.Ker

end
-- ==== Proof.Vq.PieceB.lean ====
/-
  What one run of the body leaves in each output and in each scratch, in case B of its conditionals (a step between the first and the last):
  the functions of Body.lean at the input blocks and the scratch's contents before it.
-/
module

public import proofs.«01_k».proof.Proof.Vq.Body
public import proofs.«01_k».proof.Proof.Gen.KernelIdeal.Frame
public import Idealize.ShloMosaic.Lib.ValueIdxCore
public import Idealize.ShloMosaic.Lib.Pipeline.Value

@[expose] public section

set_option maxRecDepth 16384

noncomputable section

namespace Cert.Vq.Ker

open Cert.KernelIdeal Cert.KernelIdeal.Gen
open Idealize.ShloMosaic Idealize.ShloMosaic.ValueIdx Idealize.ShloMosaic.TcCoe Idealize.ShloMosaic.Tactic

variable {F : FTy → Type} [FloatOps F]

variable (c : Dev nD) (i : grid0.Coords) (arg1 : Memref sig .tc .vmem S1x64x1024 .f32) (harg1 : arg1.IsWhole) (arg2 : Memref sig .tc .vmem S1024x64 .f32) (harg2 : arg2.IsWhole) (arg3 : Memref sig .tc .vmem S1x64x1024 .f32) (harg3 : arg3.IsWhole) (arg4 : Memref sig .tc .vmem S1x1x1024 .i32) (harg4 : arg4.IsWhole) (arg5 : Memref sig .tc .smem S1 .f32) (harg5 : arg5.IsWhole) (arg6 : Memref sig .tc .smem S1 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x64 .f32) (harg9 : arg9.IsWhole) (arg10 : Memref sig .tc .vmem S1024x1 .f32) (harg10 : arg10.IsWhole) (arg11 : Memref sig .tc .smem S1 .f32) (harg11 : arg11.IsWhole)

/-- The quantised image. -/
theorem out0_B_2_eq (hc0 : ¬cond0_0 i) (hc1 : ¬cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_B_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = quantB x0 x1 xs0 xs1 xs2 := by
  unfold out0_B_2
  rw [View.read_writes_eq_canon _ _ _ (cover0_B_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The numbers. -/
theorem out0_B_3_eq (hc0 : ¬cond0_0 i) (hc1 : ¬cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = idxB x0 xs0 xs1 xs2 := by
  unfold out0_B_3
  rw [View.read_writes_eq_canon _ _ _ (cover0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The counts. -/
theorem sout0_B_3_eq (hc0 : ¬cond0_0 i) (hc1 : ¬cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    sout0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = countB x0 xs0 xs1 xs2 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The loss. -/
theorem sout0_B_4_eq (hc0 : ¬cond0_0 i) (hc1 : ¬cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    sout0_B_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = fun _ => lossB x0 xs0 xs2 (xs4 (ix1 0)) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

end Cert.Vq.Ker

end
-- ==== Proof.Vq.PieceC.lean ====
/-
  What one run of the body leaves in each output and in each scratch, in case C of its conditionals (the last step):
  the functions of Body.lean at the input blocks and the scratch's contents before it.
-/
module

public import proofs.«01_k».proof.Proof.Vq.Body
public import proofs.«01_k».proof.Proof.Gen.KernelIdeal.Frame
public import Idealize.ShloMosaic.Lib.ValueIdxCore
public import Idealize.ShloMosaic.Lib.Pipeline.Value

@[expose] public section

set_option maxRecDepth 16384

noncomputable section

namespace Cert.Vq.Ker

open Cert.KernelIdeal Cert.KernelIdeal.Gen
open Idealize.ShloMosaic Idealize.ShloMosaic.ValueIdx Idealize.ShloMosaic.TcCoe Idealize.ShloMosaic.Tactic

variable {F : FTy → Type} [FloatOps F]

variable (c : Dev nD) (i : grid0.Coords) (arg1 : Memref sig .tc .vmem S1x64x1024 .f32) (harg1 : arg1.IsWhole) (arg2 : Memref sig .tc .vmem S1024x64 .f32) (harg2 : arg2.IsWhole) (arg3 : Memref sig .tc .vmem S1x64x1024 .f32) (harg3 : arg3.IsWhole) (arg4 : Memref sig .tc .vmem S1x1x1024 .i32) (harg4 : arg4.IsWhole) (arg5 : Memref sig .tc .smem S1 .f32) (harg5 : arg5.IsWhole) (arg6 : Memref sig .tc .smem S1 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x64 .f32) (harg9 : arg9.IsWhole) (arg10 : Memref sig .tc .vmem S1024x1 .f32) (harg10 : arg10.IsWhole) (arg11 : Memref sig .tc .smem S1 .f32) (harg11 : arg11.IsWhole)

/-- The quantised image. -/
theorem out0_C_2_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_C_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = quantB x0 x1 xs0 xs1 xs2 := by
  unfold out0_C_2
  rw [View.read_writes_eq_canon _ _ _ (cover0_C_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The numbers. -/
theorem out0_C_3_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = idxB x0 xs0 xs1 xs2 := by
  unfold out0_C_3
  rw [View.read_writes_eq_canon _ _ _ (cover0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The loss, at the end. -/
theorem out0_C_4_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = fun _ => k0_pay2 (lossB x0 xs0 xs2 (xs4 (ix1 0))) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The perplexity, at the end. -/
theorem out0_C_5_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    out0_C_5 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = fun _ => k0_pay3 (countB x0 xs0 xs1 xs2 xs3) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The counts. -/
theorem sout0_C_3_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    sout0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = countB x0 xs0 xs1 xs2 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

/-- The loss. -/
theorem sout0_C_4_eq (hc0 : ¬cond0_0 i) (hc1 : cond0_1 i) (x0 : Vec F S1x64x1024 .f32) (x1 : Vec F S1024x64 .f32) (xs0 : Vec F S1024x1024 .f32) (xs1 : Vec F S1024x1024 .f32) (xs2 : Vec F S1024x64 .f32) (xs3 : Vec F S1024x1 .f32) (xs4 : Vec F S1 .f32) :
    sout0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = fun _ => lossB x0 xs0 xs2 (xs4 (ix1 0)) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  try simp only [View.readAt_eq_ld, harg1.read_unread, harg2.read_unread, harg7.read_unread, harg8.read_unread,
    harg9.read_unread, harg10.read_unread, harg11.read_unread]
  try simp only [View.ld_unit_zero (S := S1x64x1024) (off := ![0, 0, 0]) (by decide), View.ld_unit_zero (S := S1024x64) (off := ![0, 0]) (by decide),
    View.ld_unit_zero (S := S1024x1024) (off := ![0, 0]) (by decide), View.ld_unit_zero (S := S1024x1) (off := ![0, 0]) (by decide), View.ld_unit_zero (S := S1) (off := ![0]) (by decide)]
  try rw [ld_word]
  try simp only [View.readCov_unit_zero _ (S := S1024x64) (off := ![0, 0]) (by decide), View.readCov_unit_zero _ (S := S1024x1024) (off := ![0, 0]) (by decide),
    View.readCov_unit_zero _ (S := S1024x1) (off := ![0, 0]) (by decide), View.readCov_unit_zero _ (S := S1) (off := ![0]) (by decide)]
  exact View.canon_cons_unit_zero (by decide) _ _ _

end Cert.Vq.Ker

end
-- ==== Proof.Vq.Fold.lean ====
/-
  What the buffers hold after each step of the kernel, by recursion on the step: the three tables that the first step
  fills and the others keep, the counts and the loss that every step adds to, and the two blocks that a step writes.
-/
module

public import proofs.«01_k».proof.Proof.Vq.PieceA
public import proofs.«01_k».proof.Proof.Vq.PieceB
public import proofs.«01_k».proof.Proof.Vq.PieceC
public import Idealize.ShloMosaic.Lib.Pipeline.ValueKit

@[expose] public section

set_option maxRecDepth 16384

noncomputable section

namespace Cert.Vq.Ker

open Cert.KernelIdeal Cert.KernelIdeal.Gen
open Idealize.ShloMosaic Idealize.ShloMosaic.ValueIdx Idealize.ShloMosaic.TcCoe Idealize.ShloMosaic.Tactic
open Idealize.ShloMosaic.Pipeline

variable {F : FTy → Type} [FloatOps F]

/-- The images with their positions in one row. -/
def images (x : Vec F S16x64x32x32 .f32) : Vec F S16x64x1024 .f32 :=
  shapeCast S16x64x1024 x shapeCasts_S16x64x32x32_S16x64x1024

/-- Image `n` as a block. -/
def image (x : Vec F S16x64x32x32 .f32) (n : ℕ) : Vec F S1x64x1024 .f32 :=
  fun j => images x (ValueIdx.ix3 (⟨n % 16, Nat.mod_lt _ (by decide)⟩ : Fin 16) (j 1) (j 2))

/-- The counts after step `n`. -/
def counts (x : Vec F S16x64x32x32 .f32) (e : Vec F S1024x64 .f32) : ℕ → Vec F S1024x1 .f32
  | 0 => countB (image x 0) (k0_pay5 e) (k0_pay6 (F := F)) (k0_pay4 e) (k0_pay7 (F := F))
  | n + 1 => countB (image x (n + 1)) (k0_pay5 e) (k0_pay6 (F := F)) (k0_pay4 e) (counts x e n)

/-- The summed least distances after step `n`. -/
def total (x : Vec F S16x64x32x32 .f32) (e : Vec F S1024x64 .f32) : ℕ → F .f32
  | 0 => lossB (image x 0) (k0_pay5 e) (k0_pay4 e) (Scalar.ofBits .f32 0x00000000#32)
  | n + 1 => lossB (image x (n + 1)) (k0_pay5 e) (k0_pay4 e) (total x e n)

variable (m : (ℓ : Loc nD τ sig) → Buf (Elt F) ℓ) (c : Dev nD)

/-- The images argument. -/
abbrev argX : Vec F S16x64x32x32 .f32 := m ((c : Thread nD τ).loc main_arg0)
/-- The codebook argument. -/
abbrev argE : Vec F S1024x64 .f32 := m ((c : Thread nD τ).loc main_arg1)

/-- Where the windows' blocks lie. -/
theorem places : ∀ t : Fin cfg0.N, win0_0.index t = ![t.val, 0, 0] ∧ win0_1.index t = ![0, 0] ∧
    win0_2.index t = ![t.val, 0, 0] ∧ win0_3.index t = ![t.val, 0, 0] := by decide +kernel

/-- The first operation writes the images with their positions in one row. -/
theorem V_images : V m c main_v0 = images (argX m c) := by
  rfl

/-- A step reads its own image. -/
theorem iblk_image (t : Fin cfg0.N) : (iblk m c 0 t : Vec F S1x64x1024 .f32) = image (argX m c) t.val := by
  have ht : t.val < 16 := lt_of_lt_of_eq t.isLt (show cfg0.N = 16 from N_0)
  funext j
  unfold iblk
  rw [View.read_apply]
  show V m c main_v0 _ = _
  rw [V_images]
  unfold image
  congr 1
  funext a
  apply Fin.ext
  have h0 := (places t).1
  have hj : (j 0).val < 1 := (j 0).isLt
  match a with
  | ⟨0, _⟩ => show win0_0.index t 0 * 1 + 1 * (j 0).val = t.val % 16; rw [h0]; show t.val * 1 + 1 * _ = _; omega
  | ⟨1, _⟩ => show win0_0.index t 1 * 64 + 1 * (j 1).val = (j 1).val; rw [h0]; show 0 * 64 + 1 * _ = _; omega
  | ⟨2, _⟩ => show win0_0.index t 2 * 1024 + 1 * (j 2).val = (j 2).val; rw [h0]; show 0 * 1024 + 1 * _ = _; omega

/-- A step reads the whole codebook. -/
theorem iblk_codebook (t : Fin cfg0.N) : (iblk m c 1 t : Vec F S1024x64 .f32) = argE m c := by
  funext j
  unfold iblk
  rw [View.read_apply]
  show V m c main_arg1 _ = _
  rw [V_main_arg1]
  show argE m c _ = argE m c j
  congr 1
  funext a
  apply Fin.ext
  have h0 := (places t).2.1
  match a with
  | ⟨0, _⟩ => show win0_1.index t 0 * 1024 + 1 * (j 0).val = (j 0).val; rw [h0]; show 0 * 1024 + 1 * _ = _; omega
  | ⟨1, _⟩ => show win0_1.index t 1 * 64 + 1 * (j 1).val = (j 1).val; rw [h0]; show 0 * 64 + 1 * _ = _; omega

/-- What the carried buffers hold after step `n`. -/
theorem carried : ∀ (n : ℕ) (h : n < cfg0.N), (outsAt0 m c n h).2.2.2.2 =
    (k0_pay5 (argE m c), k0_pay6 (F := F), k0_pay4 (argE m c), counts (argX m c) (argE m c) n,
      fun _ => total (argX m c) (argE m c) n)
  | 0, h => by
    rw [outsAt0_A m c ⟨0, h⟩ rfl (by dsimp only; omega)]
    dsimp only
    rw [sout0_A_0_eq, sout0_A_1_eq, sout0_A_2_eq, sout0_A_3_eq, sout0_A_4_eq, iblk_image, iblk_codebook]
    rfl
  | n + 1, h => by
    have hN : cfg0.N = 16 := N_0
    have ih := carried n (Nat.lt_of_succ_lt h)
    have e0 := congrArg (fun p => p.1) ih
    have e1 := congrArg (fun p => p.2.1) ih
    have e2 := congrArg (fun p => p.2.2.1) ih
    have e3 := congrArg (fun p => p.2.2.2.1) ih
    have e4 := congrArg (fun p => p.2.2.2.2) ih
    dsimp only at e0 e1 e2 e3 e4
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      unfold sout0_C_0 sout0_C_1 sout0_C_2
      rw [sout0_C_3_eq, sout0_C_4_eq, iblk_image]
      simp only [Nat.add_sub_cancel]
      rw [e0, e1, e2, e3, e4]
      rfl
    · rw [outsAt0_B m c ⟨n + 1, h⟩ h0 h1]
      dsimp only
      unfold sout0_B_0 sout0_B_1 sout0_B_2
      rw [sout0_B_3_eq, sout0_B_4_eq, iblk_image]
      simp only [Nat.add_sub_cancel]
      rw [e0, e1, e2, e3, e4]
      rfl

/-- The image and the numbers that a step writes. -/
theorem written (t : Fin cfg0.N) :
    (outsAt0 m c t.val t.isLt).1 = quantB (image (argX m c) t.val) (argE m c) (k0_pay5 (argE m c)) (k0_pay6 (F := F)) (k0_pay4 (argE m c)) ∧
    (outsAt0 m c t.val t.isLt).2.1 = idxB (image (argX m c) t.val) (k0_pay5 (argE m c)) (k0_pay6 (F := F)) (k0_pay4 (argE m c)) := by
  have hN : cfg0.N = 16 := N_0
  have ht := t.isLt
  by_cases h0 : t.val % 16 = 0
  · have h1 : ¬t.val % 16 = 15 := by omega
    rw [outsAt0_A m c t h0 h1]
    dsimp only
    rw [out0_A_2_eq, out0_A_3_eq, iblk_image, iblk_codebook]
    exact ⟨rfl, rfl⟩
  · have ih := carried m c (t.val - 1) (Nat.lt_of_le_of_lt (Nat.sub_le _ _) t.isLt)
    have e0 := congrArg (fun p => p.1) ih
    have e1 := congrArg (fun p => p.2.1) ih
    have e2 := congrArg (fun p => p.2.2.1) ih
    dsimp only at e0 e1 e2
    by_cases h1 : t.val % 16 = 15
    · rw [outsAt0_C m c t h0 h1]
      dsimp only
      rw [out0_C_2_eq, out0_C_3_eq, iblk_image, iblk_codebook, e0, e1, e2]
      exact ⟨rfl, rfl⟩
    · rw [outsAt0_B m c t h0 h1]
      dsimp only
      rw [out0_B_2_eq, out0_B_3_eq, iblk_image, iblk_codebook, e0, e1, e2]
      exact ⟨rfl, rfl⟩

/-- The loss and the perplexity that the last step writes. -/
theorem written_last :
    (outsAt0 m c t0_15.val t0_15.isLt).2.2.1 = (fun _ => k0_pay2 (total (argX m c) (argE m c) 15)) ∧
    (outsAt0 m c t0_15.val t0_15.isLt).2.2.2.1 = fun _ => k0_pay3 (counts (argX m c) (argE m c) 15) := by
  have hN : cfg0.N = 16 := N_0
  have h0 : ¬t0_15.val % 16 = 0 := by decide
  have h1 : t0_15.val % 16 = 15 := by decide
  have ih := carried m c (t0_15.val - 1) (Nat.lt_of_le_of_lt (Nat.sub_le _ _) t0_15.isLt)
  have e0 := congrArg (fun p => p.1) ih
  have e1 := congrArg (fun p => p.2.1) ih
  have e2 := congrArg (fun p => p.2.2.1) ih
  have e3 := congrArg (fun p => p.2.2.2.1) ih
  have e4 := congrArg (fun p => p.2.2.2.2) ih
  dsimp only at e0 e1 e2 e3 e4
  rw [outsAt0_C m c t0_15 h0 h1]
  dsimp only
  rw [out0_C_4_eq, out0_C_5_eq, iblk_image, e0, e1, e2, e3, e4]
  exact ⟨rfl, rfl⟩

end Cert.Vq.Ker

end
-- ==== Proof.Vq.KerRun.lean ====
/-
  A run of the kernel: what its four results hold, as functions of the two arguments.
-/
module

public import proofs.«01_k».proof.Proof.Vq.Fold
public import Idealize.ShloMosaic.Lib.Claim

@[expose] public section

set_option maxRecDepth 16384

noncomputable section

namespace Cert.Vq.Ker

open Cert.KernelIdeal Cert.KernelIdeal.Gen
open Idealize.ShloMosaic Idealize.ShloMosaic.TcCoe Idealize.ShloMosaic.Tactic Idealize.SL.Sem
open Idealize.ShloMosaic.Pipeline

variable {F : FTy → Type} [FloatOps F]

/-- The quantised images, their positions in one row. -/
def quantAll (x : Vec F S16x64x32x32 .f32) (e : Vec F S1024x64 .f32) : Vec F S16x64x1024 .f32 :=
  fun i => quantB (image x (i 0).val) e (k0_pay5 e) (k0_pay6 (F := F)) (k0_pay4 e) (ValueIdx.ix3 (0 : Fin 1) (i 1) (i 2))

/-- The numbers, image by image. -/
def idxAll (x : Vec F S16x64x32x32 .f32) (e : Vec F S1024x64 .f32) : IVec S16x1x1024 32 :=
  fun i => idxB (image x (i 0).val) (k0_pay5 e) (k0_pay6 (F := F)) (k0_pay4 e) (ValueIdx.ix3 (0 : Fin 1) (i 1) (i 2))

variable (m : (ℓ : Loc nD τ sig) → Buf (Elt F) ℓ) (ρ : Dev nD → PrngReg) (c : Dev nD)

/-- The quantised images after the launch. -/
theorem final_2 : (dats m 0 c).arrAt 2 cfg0.N = quantAll (argX m c) (argE m c) := by
  refine (dats m 0 c).arrAt_eq_of_covers 2 _ (by decide +kernel) fun t hf y => ?_
  blk_simp
  rw [after0_2, (written m c t).1]
  have h0 := (places t).2.2.1
  have hy : (y 0).val < 1 := (y 0).isLt
  have e0 : (((win0_2.blk t).view.emb y) 0 : Nat) = t.val := by
    show win0_2.index t 0 * 1 + 1 * (y 0).val = _; rw [h0]; show t.val * 1 + 1 * _ = _; omega
  have e1 : (((win0_2.blk t).view.emb y) 1 : Nat) = (y 1).val := by
    show win0_2.index t 1 * 64 + 1 * (y 1).val = _; rw [h0]; show 0 * 64 + 1 * _ = _; omega
  have e2 : (((win0_2.blk t).view.emb y) 2 : Nat) = (y 2).val := by
    show win0_2.index t 2 * 1024 + 1 * (y 2).val = _; rw [h0]; show 0 * 1024 + 1 * _ = _; omega
  unfold quantAll
  rw [e0]
  congr 1
  funext a
  apply Fin.ext
  match a with
  | ⟨0, _⟩ => show (y 0).val = 0; omega
  | ⟨1, _⟩ => exact e1.symm
  | ⟨2, _⟩ => exact e2.symm

/-- The numbers after the launch. -/
theorem final_3 : (dats m 0 c).arrAt 3 cfg0.N = idxAll (argX m c) (argE m c) := by
  refine (dats m 0 c).arrAt_eq_of_covers 3 _ (by decide +kernel) fun t hf y => ?_
  blk_simp
  rw [after0_3, (written m c t).2]
  have h0 := (places t).2.2.2
  have hy : (y 0).val < 1 := (y 0).isLt
  have e0 : (((win0_3.blk t).view.emb y) 0 : Nat) = t.val := by
    show win0_3.index t 0 * 1 + 1 * (y 0).val = _; rw [h0]; show t.val * 1 + 1 * _ = _; omega
  have e1 : (((win0_3.blk t).view.emb y) 1 : Nat) = (y 1).val := by
    show win0_3.index t 1 * 1 + 1 * (y 1).val = _; rw [h0]; show 0 * 1 + 1 * _ = _; omega
  have e2 : (((win0_3.blk t).view.emb y) 2 : Nat) = (y 2).val := by
    show win0_3.index t 2 * 1024 + 1 * (y 2).val = _; rw [h0]; show 0 * 1024 + 1 * _ = _; omega
  unfold idxAll
  rw [e0]
  congr 1
  funext a
  apply Fin.ext
  match a with
  | ⟨0, _⟩ => show (y 0).val = 0; omega
  | ⟨1, _⟩ => exact e1.symm
  | ⟨2, _⟩ => exact e2.symm

/-- The loss after the launch. -/
theorem final_4 : (dats m 0 c).arrAt 4 cfg0.N = (fun _ => k0_pay2 (total (argX m c) (argE m c) 15) : Vec F S1 .f32) := by
  refine (dats m 0 c).arrAt_eq_of_after_last 4 t0_15 (by decide +kernel) _ fun j => ?_
  blk_simp
  rw [after0_4, (written_last m c).1]

/-- The perplexity after the launch. -/
theorem final_5 : (dats m 0 c).arrAt 5 cfg0.N = (fun _ => k0_pay3 (counts (argX m c) (argE m c) 15) : Vec F S1 .f32) := by
  refine (dats m 0 c).arrAt_eq_of_after_last 5 t0_15 (by decide +kernel) _ fun j => ?_
  blk_simp
  rw [after0_5, (written_last m c).2]

/-- The four results, without the arguments. -/
theorem run_values : θ_run defs (onTc (τ := τ) (main (F := F))) ⟨m, fun _ => 0, ρ⟩ (fun r => ∀ c : Dev nD,
      r.2.mem ((c.tc : Thread nD τ).loc main_v2) = shapeCast S16x64x32x32 (quantAll (argX m c) (argE m c)) shapeCasts_S16x64x1024_S16x64x32x32
      ∧ r.2.mem ((c.tc : Thread nD τ).loc main_v3) = shapeCast S_ (fun _ => k0_pay2 (total (argX m c) (argE m c) 15) : Vec F S1 .f32) shapeCasts_S1_S_
      ∧ r.2.mem ((c.tc : Thread nD τ).loc main_v4) = shapeCast S_ (fun _ => k0_pay3 (counts (argX m c) (argE m c) 15) : Vec F S1 .f32) shapeCasts_S1_S_
      ∧ r.2.mem ((c.tc : Thread nD τ).loc main_v5) = shapeCast S16x1024 (idxAll (argX m c) (argE m c)) shapeCasts_S16x1x1024_S16x1024) := by
  run_from run_main m ρ
  · unfold afterTail₀
    rw [show [hostOps1 (F := F)].flatten = hostOps1 from rfl]
    after_region_results
    erw [Pipeline.withArrays_arr (cfgs 0).spec launch0.win.arr_inj c _ _ 2, final_2]
    rfl
  · unfold afterTail₀
    rw [show [hostOps1 (F := F)].flatten = hostOps1 from rfl]
    after_region_results
    erw [Pipeline.withArrays_arr (cfgs 0).spec launch0.win.arr_inj c _ _ 4, final_4]
    rfl
  · unfold afterTail₀
    rw [show [hostOps1 (F := F)].flatten = hostOps1 from rfl]
    after_region_results
    erw [Pipeline.withArrays_arr (cfgs 0).spec launch0.win.arr_inj c _ _ 5, final_5]
    rfl
  · unfold afterTail₀
    rw [show [hostOps1 (F := F)].flatten = hostOps1 from rfl]
    after_region_results
    erw [Pipeline.withArrays_arr (cfgs 0).spec launch0.win.arr_inj c _ _ 3, final_3]
    rfl

/-- The run: the four results and the two arguments. -/
theorem run_results : θ_run defs (onTc (τ := τ) (main (F := F))) ⟨m, fun _ => 0, ρ⟩ (fun r => ∀ c : Dev nD,
      r.2.mem ((c.tc : Thread nD τ).loc main_v2) = shapeCast S16x64x32x32 (quantAll (argX m c) (argE m c)) shapeCasts_S16x64x1024_S16x64x32x32
      ∧ r.2.mem ((c.tc : Thread nD τ).loc main_v3) = shapeCast S_ (fun _ => k0_pay2 (total (argX m c) (argE m c) 15) : Vec F S1 .f32) shapeCasts_S1_S_
      ∧ r.2.mem ((c.tc : Thread nD τ).loc main_v4) = shapeCast S_ (fun _ => k0_pay3 (counts (argX m c) (argE m c) 15) : Vec F S1 .f32) shapeCasts_S1_S_
      ∧ r.2.mem ((c.tc : Thread nD τ).loc main_v5) = shapeCast S16x1024 (idxAll (argX m c) (argE m c)) shapeCasts_S16x1x1024_S16x1024
      ∧ r.2.mem ((c.tc : Thread nD τ).loc main_arg0) = argX m c
      ∧ r.2.mem ((c.tc : Thread nD τ).loc main_arg1) = argE m c) := by
  exact (θ_run defs _ _).mono (fun _ h c => ⟨(h.1 c).1, (h.1 c).2.1, (h.1 c).2.2.1, (h.1 c).2.2.2, (h.2 c).1, (h.2 c).2⟩)
    (θ_run_and (run_values m ρ) (unchanged m ρ))

end Cert.Vq.Ker

end
-- ==== Proof.Vq.Tourn.lean ====
/-
  The tournament that finds the nearest codebook vector: ten halvings, each keeping the smaller of two distances and
  its number. A distance strictly below all others survives every halving, with its number.
-/
module

public import proofs.«01_k».proof.Proof.Vq.Body
public import Idealize.ShloMosaic.Lib.Pointwise

@[expose] public section

set_option maxRecDepth 16384

noncomputable section

namespace Cert.Vq.Ker

open Cert.KernelIdeal Cert.KernelIdeal.Gen
open Idealize.ShloMosaic Idealize.ShloMosaic.TcCoe Idealize.ShloMosaic.Tactic

/-- One of the values is `d`, its number is `a`, and every other value lies above `d`. -/
def Wins {N : ℕ} (V A : Fin N → EReal) (d a : EReal) : Prop :=
  ∃ i, V i = d ∧ A i = a ∧ ∀ k, k ≠ i → d < V k

/-- Keeping the smaller of the entries `j` and `H + j`, with its number, keeps the winner. -/
theorem Wins.halve {N H : ℕ} {V A : Fin N → EReal} {V' A' : Fin H → EReal} {d a : EReal} (h : Wins V A d a)
    (hN : N = H + H)
    (hV : ∀ j : Fin H, V' j = if V ⟨j.val, by omega⟩ ≤ V ⟨H + j.val, by omega⟩ then V ⟨j.val, by omega⟩
      else V ⟨H + j.val, by omega⟩)
    (hA : ∀ j : Fin H, A' j = if V ⟨j.val, by omega⟩ ≤ V ⟨H + j.val, by omega⟩ then A ⟨j.val, by omega⟩
      else A ⟨H + j.val, by omega⟩) : Wins V' A' d a := by
  obtain ⟨i, hd, ha, hlt⟩ := h
  by_cases hi : i.val < H
  · refine ⟨⟨i.val, hi⟩, ?_, ?_, fun k hk => ?_⟩
    · rw [hV, if_pos, ← hd]
      exact hd.le.trans (hlt _ fun e => by have := congrArg Fin.val e; dsimp only at this; omega).le
    · rw [hA, if_pos, ← ha]
      exact hd.le.trans (hlt _ fun e => by have := congrArg Fin.val e; dsimp only at this; omega).le
    · have hk' : k.val ≠ i.val := fun e => hk (Fin.ext e)
      rw [hV]
      split_ifs
      · exact hlt _ fun e => hk' (congrArg Fin.val e)
      · exact hlt _ fun e => by have := congrArg Fin.val e; dsimp only at this; omega
  · have hi2 : (⟨H + (i.val - H), by omega⟩ : Fin N) = i := Fin.ext (by dsimp only; omega)
    refine ⟨⟨i.val - H, by omega⟩, ?_, ?_, fun k hk => ?_⟩
    · rw [hV, if_neg, ← hd]
      · exact congrArg V hi2
      · rw [not_le]; dsimp only; rw [hi2, hd]
        exact hlt _ fun e => by have := congrArg Fin.val e; dsimp only at this; omega
    · rw [hA, if_neg, ← ha]
      · exact congrArg A hi2
      · rw [not_le]; dsimp only; rw [hi2, hd]
        exact hlt _ fun e => by have := congrArg Fin.val e; dsimp only at this; omega
    · have hk' : k.val ≠ i.val - H := fun e => hk (Fin.ext e)
      rw [hV]
      split_ifs
      · exact hlt _ fun e => by have := congrArg Fin.val e; dsimp only at this; omega
      · exact hlt _ fun e => by have := congrArg Fin.val e; dsimp only at this; omega

/-- A value strictly below the others, with a number for each, wins. -/
theorem Wins.of_lt {N : ℕ} {V A : Fin N → EReal} (i : Fin N) (h : ∀ k, k ≠ i → V i < V k) : Wins V A (V i) (A i) :=
  ⟨i, rfl, rfl, h⟩

/-- The winner of one candidate. -/
theorem Wins.one {V A : Fin 1 → EReal} {d a : EReal} (h : Wins V A d a) : V 0 = d ∧ A 0 = a := by
  obtain ⟨i, hd, ha, _⟩ := h
  rw [Subsingleton.elim i 0] at hd ha
  exact ⟨hd, ha⟩

/-- A column of a matrix. -/
def col {N : ℕ} (x : FVec Ideal ⟨2, ![N, 1024]⟩ .f32) (p : Fin 1024) : Fin N → EReal := fun j => x (ix2 j p)

section
variable (x : Vec Ideal S1x64x1024 .f32) (sse iif : Vec Ideal S1024x1024 .f32) (m2e : Vec Ideal S1024x64 .f32)
variable (v : FVec Ideal S256x1024 .f32)

/-- The numbers of the 256 candidates. -/
def num256 : FVec Ideal S256x1024 .f32 := select (k0_pay13 x m2e sse)
  (extractStridedSlice S256x1024 ![0, 0] (k0_pay12 x m2e sse iif) slices_S512x1024_o0_0_S256x1024)
  (extractStridedSlice S256x1024 ![256, 0] (k0_pay12 x m2e sse iif) slices_S512x1024_o256_0_S256x1024)

/-- The numbers of the 128 candidates, from those of 256. -/
def num128 (a : FVec Ideal S256x1024 .f32) : FVec Ideal S128x1024 .f32 := select (k0_pay15 v)
  (extractStridedSlice S128x1024 ![0, 0] a slices_S256x1024_o0_0_S128x1024)
  (extractStridedSlice S128x1024 ![128, 0] a slices_S256x1024_o128_0_S128x1024)

/-- The numbers of the 64 candidates, from those of 128. -/
def num64 (a : FVec Ideal S128x1024 .f32) : FVec Ideal S64x1024 .f32 := select (k0_pay17 v)
  (extractStridedSlice S64x1024 ![0, 0] a slices_S128x1024_o0_0_S64x1024)
  (extractStridedSlice S64x1024 ![64, 0] a slices_S128x1024_o64_0_S64x1024)

/-- The numbers of the 32 candidates, from those of 64. -/
def num32 (a : FVec Ideal S64x1024 .f32) : FVec Ideal S32x1024 .f32 := select (k0_pay19 v)
  (extractStridedSlice S32x1024 ![0, 0] a slices_S64x1024_o0_0_S32x1024)
  (extractStridedSlice S32x1024 ![32, 0] a slices_S64x1024_o32_0_S32x1024)

/-- The numbers of the 16 candidates, from those of 32. -/
def num16 (a : FVec Ideal S32x1024 .f32) : FVec Ideal S16x1024 .f32 := select (k0_pay21 v)
  (extractStridedSlice S16x1024 ![0, 0] a slices_S32x1024_o0_0_S16x1024)
  (extractStridedSlice S16x1024 ![16, 0] a slices_S32x1024_o16_0_S16x1024)

/-- The numbers of the 8 candidates, from those of 16. -/
def num8 (a : FVec Ideal S16x1024 .f32) : FVec Ideal S8x1024 .f32 := select (k0_pay23 v)
  (extractStridedSlice S8x1024 ![0, 0] a slices_S16x1024_o0_0_S8x1024)
  (extractStridedSlice S8x1024 ![8, 0] a slices_S16x1024_o8_0_S8x1024)

/-- The numbers of the 4 candidates, from those of 8. -/
def num4' (a : FVec Ideal S8x1024 .f32) : FVec Ideal S4x1024 .f32 := select (k0_pay25 v)
  (extractStridedSlice S4x1024 ![0, 0] a slices_S8x1024_o0_0_S4x1024)
  (extractStridedSlice S4x1024 ![4, 0] a slices_S8x1024_o4_0_S4x1024)

/-- The numbers of the last four, halving by halving. -/
theorem num4_eq : num4 x sse iif m2e = num4' (k0_pay14 x m2e sse) (num8 (k0_pay14 x m2e sse) (num16 (k0_pay14 x m2e sse)
    (num32 (k0_pay14 x m2e sse) (num64 (k0_pay14 x m2e sse) (num128 (k0_pay14 x m2e sse) (num256 x sse iif m2e)))))) := rfl

/-- From 1024 to 512. -/
theorem halve512 (p : Fin 1024) {d w : EReal} (h : Wins (col (k0_pay9 x m2e sse) p) (col iif p) d w) :
    Wins (col (k0_pay11 x m2e sse) p) (col (k0_pay12 x m2e sse iif) p) d w :=
  h.halve (H := 512) rfl (fun j => by unfold col; pointwise [k0_pay11, k0_pay10]) (fun j => by unfold col; pointwise [k0_pay12, k0_pay10])

/-- From 512 to 256. -/
theorem halve256 (p : Fin 1024) {d w : EReal} (h : Wins (col (k0_pay11 x m2e sse) p) (col (k0_pay12 x m2e sse iif) p) d w) :
    Wins (col (k0_pay14 x m2e sse) p) (col (num256 x sse iif m2e) p) d w :=
  h.halve (H := 256) rfl (fun j => by unfold col; pointwise [k0_pay14, k0_pay13]) (fun j => by unfold col; pointwise [num256, k0_pay13])

/-- From 256 to 128. -/
theorem halve128 (a : FVec Ideal S256x1024 .f32) (p : Fin 1024) {d w : EReal} (h : Wins (col v p) (col a p) d w) :
    Wins (col (k0_pay16 v) p) (col (num128 v a) p) d w :=
  h.halve (H := 128) rfl (fun j => by unfold col; pointwise [k0_pay16, k0_pay15]) (fun j => by unfold col; pointwise [num128, k0_pay15])

/-- From 128 to 64. -/
theorem halve64 (a : FVec Ideal S128x1024 .f32) (p : Fin 1024) {d w : EReal} (h : Wins (col (k0_pay16 v) p) (col a p) d w) :
    Wins (col (k0_pay18 v) p) (col (num64 v a) p) d w :=
  h.halve (H := 64) rfl (fun j => by unfold col; pointwise [k0_pay18, k0_pay17]) (fun j => by unfold col; pointwise [num64, k0_pay17])

/-- From 64 to 32. -/
theorem halve32 (a : FVec Ideal S64x1024 .f32) (p : Fin 1024) {d w : EReal} (h : Wins (col (k0_pay18 v) p) (col a p) d w) :
    Wins (col (k0_pay20 v) p) (col (num32 v a) p) d w :=
  h.halve (H := 32) rfl (fun j => by unfold col; pointwise [k0_pay20, k0_pay19]) (fun j => by unfold col; pointwise [num32, k0_pay19])

/-- From 32 to 16. -/
theorem halve16 (a : FVec Ideal S32x1024 .f32) (p : Fin 1024) {d w : EReal} (h : Wins (col (k0_pay20 v) p) (col a p) d w) :
    Wins (col (k0_pay22 v) p) (col (num16 v a) p) d w :=
  h.halve (H := 16) rfl (fun j => by unfold col; pointwise [k0_pay22, k0_pay21]) (fun j => by unfold col; pointwise [num16, k0_pay21])

/-- From 16 to 8. -/
theorem halve8 (a : FVec Ideal S16x1024 .f32) (p : Fin 1024) {d w : EReal} (h : Wins (col (k0_pay22 v) p) (col a p) d w) :
    Wins (col (k0_pay24 v) p) (col (num8 v a) p) d w :=
  h.halve (H := 8) rfl (fun j => by unfold col; pointwise [k0_pay24, k0_pay23]) (fun j => by unfold col; pointwise [num8, k0_pay23])

/-- From 8 to 4. -/
theorem halve4 (a : FVec Ideal S8x1024 .f32) (p : Fin 1024) {d w : EReal} (h : Wins (col (k0_pay24 v) p) (col a p) d w) :
    Wins (col (k0_pay26 v) p) (col (num4' v a) p) d w :=
  h.halve (H := 4) rfl (fun j => by unfold col; pointwise [k0_pay26, k0_pay25]) (fun j => by unfold col; pointwise [num4', k0_pay25])

/-- The smaller of the last two. -/
def last (b : FVec Ideal S4x1024 .f32) (m : IVec S2x1024 1) : FVec Ideal S1x1024 .f32 :=
  select (k0_pay30 b m) (extractStridedSlice S1x1024 ![0, 0] (k0_pay29 b m) slices_S2x1024_o0_0_S1x1024)
    (extractStridedSlice S1x1024 ![1, 0] (k0_pay29 b m) slices_S2x1024_o1_0_S1x1024)

/-- The numbers of the last two. -/
def num2 (a : FVec Ideal S4x1024 .f32) : FVec Ideal S2x1024 .f32 := select (k0_pay28 v)
  (extractStridedSlice S2x1024 ![0, 0] a slices_S4x1024_o0_0_S2x1024)
  (extractStridedSlice S2x1024 ![2, 0] a slices_S4x1024_o2_0_S2x1024)

/-- From 4 to 2. -/
theorem halve2 (a : FVec Ideal S4x1024 .f32) (p : Fin 1024) {d w : EReal} (h : Wins (col (k0_pay26 v) p) (col a p) d w) :
    Wins (col (k0_pay29 (k0_pay26 v) (k0_pay28 v)) p) (col (num2 v a) p) d w :=
  h.halve (H := 2) rfl (fun j => by unfold col; pointwise [k0_pay29, k0_pay28]) (fun j => by unfold col; pointwise [num2, k0_pay28])

/-- From 2 to 1. -/
theorem halve1 (a : FVec Ideal S4x1024 .f32) (p : Fin 1024) {d w : EReal} (h : Wins (col (k0_pay29 (k0_pay26 v) (k0_pay28 v)) p) (col (num2 v a) p) d w) :
    Wins (col (last (k0_pay26 v) (k0_pay28 v)) p) (col (k0_pay31 (k0_pay26 v) a (k0_pay28 v)) p) d w :=
  h.halve (H := 1) rfl (fun j => by unfold col; pointwise [last, k0_pay30]) (fun j => by unfold col; pointwise [k0_pay31, num2, k0_pay30])

/-- The winner of a column: its distance is the smallest one left, and its number the number left. -/
theorem winner (p : Fin 1024) (i : Fin 1024) (h : ∀ k, k ≠ i → k0_pay9 x m2e sse (ix2 i p) < k0_pay9 x m2e sse (ix2 k p)) :
    last (best4 x sse m2e) (keep2 x sse m2e) (ix2 (0 : Fin 1) p) = k0_pay9 x m2e sse (ix2 i p)
      ∧ k0_pay31 (best4 x sse m2e) (num4 x sse iif m2e) (keep2 x sse m2e) (ix2 (0 : Fin 1) p) = iif (ix2 i p) := by
  rw [num4_eq]
  exact (halve1 _ _ p <| halve2 _ _ p <| halve4 _ _ p <| halve8 _ _ p <| halve16 _ _ p <| halve32 _ _ p <|
    halve64 _ _ p <| halve128 _ _ p <| halve256 x sse iif m2e p <| halve512 x sse iif m2e p <|
    Wins.of_lt (V := col (k0_pay9 x m2e sse) p) (A := col iif p) i h).one

end

end Cert.Vq.Ker

end
-- ==== Proof.Vq.Reals.lean ====
/-
  Sums of reals among the extended reals, the constants of the two programs as reals, and the squared distance between a
  position of an image and a codebook vector.
-/
module

public import Idealize.ShloMosaic.Lib.Pointwise

@[expose] public section

set_option maxRecDepth 16384

noncomputable section

namespace Cert.Vq

open Idealize.ShloMosaic

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over an even number of terms, its two halves added term by term. -/
theorem sum_halves {M : Type*} [AddCommMonoid M] (H : ℕ) (f : Fin (H + H) → M) :
    ∑ i, f i = ∑ i : Fin H, (f (Fin.castAdd H i) + f (Fin.natAdd H i)) := by
  rw [Fin.sum_univ_add, Finset.sum_add_distrib]

/-- Sixty-four terms added pairwise, half onto half. -/
theorem sum_pairwise {M : Type*} [AddCommMonoid M] (f : Fin 64 → M) :
    ((((((f 0 + f 32) + (f 16 + f 48)) + ((f 8 + f 40) + (f 24 + f 56))) + (((f 4 + f 36) + (f 20 + f 52)) + ((f 12 + f 44) + (f 28 + f 60)))) + ((((f 2 + f 34) + (f 18 + f 50)) + ((f 10 + f 42) + (f 26 + f 58))) + (((f 6 + f 38) + (f 22 + f 54)) + ((f 14 + f 46) + (f 30 + f 62))))) + (((((f 1 + f 33) + (f 17 + f 49)) + ((f 9 + f 41) + (f 25 + f 57))) + (((f 5 + f 37) + (f 21 + f 53)) + ((f 13 + f 45) + (f 29 + f 61)))) + ((((f 3 + f 35) + (f 19 + f 51)) + ((f 11 + f 43) + (f 27 + f 59))) + (((f 7 + f 39) + (f 23 + f 55)) + ((f 15 + f 47) + (f 31 + f 63)))))) = ∑ i, f i := by
  rw [sum_halves 32 f, sum_halves 16, sum_halves 8, sum_halves 4, sum_halves 2, sum_halves 1, Fin.sum_univ_one]
  rfl

/-- Minus two. -/
theorem ofBits_neg_two : Ideal.ofBits .f32 0xC0000000#32 = ((-2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- A quarter. -/
theorem ofBits_quarter : Ideal.ofBits .f32 0x3E800000#32 = ((1 / 4 : ℝ) : EReal) := by
  simp [Ideal.ofBits, Ideal.ieee, -EReal.coe_mul]; norm_num

/-- The number of entries of the input. -/
theorem ofBits_entries : Ideal.ofBits .f32 0x49800000#32 = ((1048576 : ℝ) : EReal) := by
  simp [Ideal.ofBits, Ideal.ieee, -EReal.coe_mul]; norm_num

/-- The number of positions. -/
theorem ofBits_positions : Ideal.ofBits .f32 0x46800000#32 = ((16384 : ℝ) : EReal) := by
  simp [Ideal.ofBits, Ideal.ieee, -EReal.coe_mul]; norm_num

/-- One over the number of positions. -/
theorem ofBits_position_share : Ideal.ofBits .f32 0x38800000#32 = ((1 / 16384 : ℝ) : EReal) := by
  simp [Ideal.ofBits, Ideal.ieee, -EReal.coe_mul]; norm_num

/-- Plus infinity. -/
theorem ofBits_top : Ideal.ofBits .f32 0x7F800000#32 = ⊤ := by
  simp [Ideal.ofBits, Ideal.ieee]

/-- Minus infinity. -/
theorem ofBits_bot : Ideal.ofBits .f32 0xFF800000#32 = ⊥ := by
  simp [Ideal.ofBits, Ideal.ieee]

/-- The squared distance between the position `p` of an image `y` and the codebook vector `j`. -/
def gap (y : Fin 64 → Fin 1024 → ℝ) (w : Fin 1024 → Fin 64 → ℝ) (j p : Fin 1024) : ℝ := ∑ c, (w j c - y c p) ^ 2

/-- The squared distance, multiplied out: both squared lengths less twice the product. -/
theorem gap_eq (y : Fin 64 → Fin 1024 → ℝ) (w : Fin 1024 → Fin 64 → ℝ) (j p : Fin 1024) :
    gap y w j p = ∑ c, w j c * w j c + ∑ c, y c p * y c p + ∑ c, w j c * (-2) * y c p := by
  unfold gap
  rw [← Finset.sum_add_distrib, ← Finset.sum_add_distrib]
  exact Finset.sum_congr rfl fun c _ => by ring

/-- The entry of image `b` in channel `c` at position `p`, the rows of the image one after the other. -/
def pos (x : (⟨4, ![16, 64, 32, 32]⟩ : Shape).Idx → ℝ) (b : Fin 16) (c : Fin 64) (p : Fin 1024) : ℝ :=
  x (ix4 b c (⟨p.val / 32, by omega⟩ : Fin 32) (⟨p.val % 32, by omega⟩ : Fin 32))

/-- How many positions have `j` as their nearest codebook vector. -/
def uses (near : Fin 16 → Fin 1024 → Fin 1024) (j : Fin 1024) : ℝ := ∑ b, ∑ p, if j = near b p then 1 else 0

/-- The commitment loss: a quarter of the mean squared distance to the nearest codebook vectors. -/
def lossR (x : (⟨4, ![16, 64, 32, 32]⟩ : Shape).Idx → ℝ) (w : Fin 1024 → Fin 64 → ℝ)
    (near : Fin 16 → Fin 1024 → Fin 1024) : ℝ :=
  1 / 4 * (∑ b, ∑ p, gap (pos x b) w (near b p) p) * (1 / 1048576)

/-- The perplexity: the exponential of the entropy of the shares, a small constant inside the logarithm. -/
def perpR (near : Fin 16 → Fin 1024 → Fin 1024) : EReal :=
  Ideal.exp (-∑ j, ((uses near j * (1 / 16384) : ℝ) : EReal)
    * Ideal.log (((uses near j * (1 / 16384) : ℝ) : EReal) + Ideal.ofBits .f32 0x2EDBE6FF#32))

/-- The number of a codebook vector, read back from a real. -/
theorem fptosi_number (n : ℕ) (h : n < 1024) : Ideal.fptosi 32 ((n : ℝ) : EReal) = BitVec.ofNat 32 n := by
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega]
  exact BitVec.ofInt_natCast 32 n

/-- A small number's word, read as a signed integer. -/
theorem toInt_number (n : ℕ) (h : n < 1024) : (BitVec.ofNat 32 n).toInt = (n : ℤ) := by
  have h' : (BitVec.ofNat 32 n).toNat = n := by rw [BitVec.toNat_ofNat]; omega
  rw [BitVec.toInt_eq_toNat_cond, h', if_pos (by omega)]

end Cert.Vq

end
-- ==== Proof.Vq.KerValues.lean ====
/-
  One step of the kernel's body on real entries: the distances it compares, the one it keeps in each column and its
  number, and from these the step's quantised image, its numbers, and what it adds to the counts and to the loss.
-/
module

public import proofs.«01_k».proof.Proof.Vq.Tourn
public import proofs.«01_k».proof.Proof.Vq.Reals

@[expose] public section

set_option maxRecDepth 16384

noncomputable section

namespace Cert.Vq.Ker

open Cert.KernelIdeal Cert.KernelIdeal.Gen
open Idealize.ShloMosaic Idealize.ShloMosaic.TcCoe Idealize.ShloMosaic.Tactic

section
variable (x : Vec Ideal S1x64x1024 .f32) (e : Vec Ideal S1024x64 .f32)
variable {y : Fin 64 → Fin 1024 → ℝ} {w : Fin 1024 → Fin 64 → ℝ}

/-- The distances the kernel compares are the squared distances. -/
theorem distance (hx : ∀ c p, x (ix3 (0 : Fin 1) c p) = ((y c p : ℝ) : EReal))
    (he : ∀ j c, e (ix2 j c) = ((w j c : ℝ) : EReal)) (j p : Fin 1024) :
    k0_pay9 x (k0_pay4 e) (k0_pay5 e) (ix2 j p) = ((gap y w j p : ℝ) : EReal) := by
  pointwise [k0_pay9, k0_pay8, k0_pay5, k0_pay4]
  refine (congrArg₂ (· + ·) (congrArg₂ (· + ·) rfl
    (sum_pairwise fun c : Fin 64 => x (ix3 (0 : Fin 1) c p) * x (ix3 (0 : Fin 1) c p))) rfl).trans ?_
  simp only [hx, he, ofBits_neg_two, ← EReal.coe_mul, ← coe_sum, ← EReal.coe_add]
  rw [gap_eq]

/-- The row numbers the scratch holds. -/
theorem number (j p : Fin 1024) : k0_pay6 (F := Ideal) (ix2 j p) = ((j.val : ℝ) : EReal) := by
  pointwise [k0_pay6]
  show (((BitVec.ofNat 32 j.val).toInt : ℝ) : EReal) = _
  rw [toInt_number _ j.isLt]
  norm_cast

/-- Ones of the one-hot columns. -/
theorem hit (i j : Fin 1024) :
    FloatOps.sitofp (F := Ideal) FTy.f32
        (BitVec.setWidth 32 (BitVec.ofBool (decide (((j.val : ℝ) : EReal) = ((i.val : ℝ) : EReal)))))
      = (((if j = i then 1 else 0 : ℝ)) : EReal) := by
  by_cases h : j = i
  · subst h
    rw [if_pos rfl, decide_eq_true rfl]
    show (((1 : ℤ) : ℝ) : EReal) = _
    norm_cast
  · rw [if_neg h, decide_eq_false fun h' => h (Fin.ext (Nat.cast_injective (EReal.coe_injective h')))]
    show (((0 : ℤ) : ℝ) : EReal) = _
    norm_cast

variable (hx : ∀ c p, x (ix3 (0 : Fin 1) c p) = ((y c p : ℝ) : EReal))
  (he : ∀ j c, e (ix2 j c) = ((w j c : ℝ) : EReal))
  {near : Fin 1024 → Fin 1024} (hn : ∀ p k, k ≠ near p → gap y w (near p) p < gap y w k p)

include hx he hn

/-- The distance kept in a column and its number. -/
theorem kept (p : Fin 1024) :
    last (best4 x (k0_pay5 e) (k0_pay4 e)) (keep2 x (k0_pay5 e) (k0_pay4 e)) (ix2 (0 : Fin 1) p)
        = ((gap y w (near p) p : ℝ) : EReal)
      ∧ k0_pay31 (best4 x (k0_pay5 e) (k0_pay4 e)) (num4 x (k0_pay5 e) (k0_pay6 (F := Ideal)) (k0_pay4 e))
          (keep2 x (k0_pay5 e) (k0_pay4 e)) (ix2 (0 : Fin 1) p) = (((near p).val : ℝ) : EReal) := by
  have h := winner x (k0_pay5 e) (k0_pay6 (F := Ideal)) (k0_pay4 e) p (near p) fun k hk => by
    rw [distance x e hx he, distance x e hx he, EReal.coe_lt_coe_iff]
    exact hn p k hk
  rw [distance x e hx he, number] at h
  exact h

/-- The quantised image: the position's entry plus the difference to its nearest codebook vector. -/
theorem quant_at (c : Fin 64) (p : Fin 1024) :
    quantB x e (k0_pay5 e) (k0_pay6 (F := Ideal)) (k0_pay4 e) (ix3 (0 : Fin 1) c p)
      = ((w (near p) c : ℝ) : EReal) := by
  unfold quantB
  pointwise [k0_pay33, k0_pay32]
  simp only [(kept x e hx he hn _).2, number, hit, he, ← EReal.coe_mul, ← coe_sum]
  pointwise [k0_pay8]
  rw [hx, ← EReal.coe_sub, ← EReal.coe_add, EReal.coe_eq_coe_iff]
  simp

/-- The numbers of the nearest codebook vectors. -/
theorem idx_at (p : Fin 1024) :
    idxB x (k0_pay5 e) (k0_pay6 (F := Ideal)) (k0_pay4 e) (ix3 (0 : Fin 1) (0 : Fin 1) p)
      = BitVec.ofNat 32 (near p).val := by
  unfold idxB
  pointwise [k0_pay34]
  rw [(kept x e hx he hn p).2]
  exact fptosi_number _ (near p).isLt

/-- The counts after the step: one more for every position the codebook vector is nearest to. -/
theorem count_at (cnt : Vec Ideal S1024x1 .f32) (j : Fin 1024) :
    countB x (k0_pay5 e) (k0_pay6 (F := Ideal)) (k0_pay4 e) cnt (ix2 j (0 : Fin 1))
      = cnt (ix2 j (0 : Fin 1)) + ((∑ p, if j = near p then 1 else 0 : ℝ) : EReal) := by
  unfold countB
  pointwise [k0_pay35, k0_pay32]
  simp only [(kept x e hx he hn _).2, number, hit, ← coe_sum]

/-- The loss after the step: the squared distances to the nearest codebook vectors added. -/
theorem loss_at (l : Ideal .f32) :
    lossB x (k0_pay5 e) (k0_pay4 e) l = l + ((∑ p, gap y w (near p) p : ℝ) : EReal) := by
  have hl : lossB x (k0_pay5 e) (k0_pay4 e) l = l + ∑ _u : Fin 1, ∑ p : Fin 1024,
      last (best4 x (k0_pay5 e) (k0_pay4 e)) (keep2 x (k0_pay5 e) (k0_pay4 e)) (ix2 (0 : Fin 1) p) := by
    unfold lossB
    pointwise [k0_pay1, k0_pay36, last]
  rw [hl, Fin.sum_univ_one, coe_sum]
  exact congrArg (l + ·) (Finset.sum_congr rfl fun p _ => (kept x e hx he hn p).1)

end

end Cert.Vq.Ker

end
-- ==== Proof.Vq.KerAll.lean ====
/-
  The kernel's four results on real entries: every step's image, numbers, counts and loss put together over the sixteen
  images.
-/
module

public import proofs.«01_k».proof.Proof.Vq.KerValues
public import proofs.«01_k».proof.Proof.Vq.KerRun

@[expose] public section

set_option maxRecDepth 16384

noncomputable section

namespace Cert.Vq.Ker

open Cert.KernelIdeal Cert.KernelIdeal.Gen
open Idealize.ShloMosaic Idealize.ShloMosaic.TcCoe Idealize.ShloMosaic.Tactic

/-- A scalar's exponential is the extended reals'. -/
theorem scalar_exp (v : Ideal .f32) : Scalar.exp v = Ideal.exp v := rfl

/-- The perplexity of any counts. -/
theorem perp_at (cnt : FVec Ideal S1024x1 .f32) : k0_pay3 (F := Ideal) cnt
    = Ideal.exp (0 - ∑ j : Fin 1024, ∑ _u : Fin 1,
        cnt (ix2 j (0 : Fin 1)) * Ideal.ofBits .f32 0x38800000#32 *
          Ideal.log (cnt (ix2 j (0 : Fin 1)) * Ideal.ofBits .f32 0x38800000#32
            + Ideal.ofBits .f32 0x2EDBE6FF#32)) := by
  pointwise [k0_pay3]
  rw [scalar_exp]

/-- The perplexity of counts that are the uses. -/
theorem perp_uses (cnt : FVec Ideal S1024x1 .f32) {near : Fin 16 → Fin 1024 → Fin 1024}
    (hu : ∀ j : Fin 1024, cnt (ix2 j (0 : Fin 1)) = ((uses near j : ℝ) : EReal)) :
    k0_pay3 (F := Ideal) cnt = perpR near := by
  rw [perp_at, perpR, zero_sub]
  simp only [hu, ofBits_position_share, ← EReal.coe_mul, Fin.sum_univ_one]

section
variable (x : FVec Ideal S16x64x32x32 .f32) (e : FVec Ideal S1024x64 .f32)
variable {xr : S16x64x32x32.Idx → ℝ} {w : Fin 1024 → Fin 64 → ℝ} {near : Fin 16 → Fin 1024 → Fin 1024}

/-- An image of the input, at a channel and a position. -/
theorem image_at (hx : ∀ i, x i = ((xr i : ℝ) : EReal)) (n : ℕ) (c : Fin 64) (p : Fin 1024) :
    image (F := Ideal) x n (ix3 (0 : Fin 1) c p) = ((pos xr ⟨n % 16, Nat.mod_lt _ (by decide)⟩ c p : ℝ) : EReal) := by
  have h : images (F := Ideal) x (ix3 (⟨n % 16, Nat.mod_lt _ (by decide)⟩ : Fin 16) c p)
      = x (ix4 (⟨n % 16, Nat.mod_lt _ (by decide)⟩ : Fin 16) c (⟨p.val / 32, by omega⟩ : Fin 32)
          (⟨p.val % 32, by omega⟩ : Fin 32)) := by
    pointwise [images]
  exact h.trans (hx _)

variable (hx : ∀ i, x i = ((xr i : ℝ) : EReal)) (he : ∀ j c, e (ix2 j c) = ((w j c : ℝ) : EReal))
  (hn : ∀ b p k, k ≠ near b p → gap (pos xr b) w (near b p) p < gap (pos xr b) w k p)

include hx he hn

/-- The counts after the steps `0 … n`. -/
theorem counts_at (n : ℕ) (j : Fin 1024) : counts (F := Ideal) x e n (ix2 j (0 : Fin 1))
    = ((∑ b ∈ Finset.range (n + 1), ∑ p, if j = near ⟨b % 16, Nat.mod_lt _ (by decide)⟩ p then 1 else 0 : ℝ) : EReal) := by
  induction n with
  | zero =>
    refine (count_at (image (F := Ideal) x 0) e (image_at x hx 0) he (hn _) (k0_pay7 (F := Ideal)) j).trans ?_
    rw [Finset.sum_range_one]
    have h0 : k0_pay7 (F := Ideal) (ix2 j (0 : Fin 1)) = 0 := by pointwise [k0_pay7]
    rw [h0, zero_add]
  | succ n ih =>
    refine (count_at (image (F := Ideal) x (n + 1)) e (image_at x hx (n + 1)) he (hn _) (counts (F := Ideal) x e n) j).trans ?_
    rw [ih, ← EReal.coe_add, Finset.sum_range_succ _ (n + 1)]

/-- The loss after the steps `0 … n`. -/
theorem total_at (n : ℕ) : total (F := Ideal) x e n
    = ((∑ b ∈ Finset.range (n + 1), ∑ p, gap (pos xr ⟨b % 16, Nat.mod_lt _ (by decide)⟩) w
        (near ⟨b % 16, Nat.mod_lt _ (by decide)⟩ p) p : ℝ) : EReal) := by
  induction n with
  | zero =>
    refine (loss_at (image (F := Ideal) x 0) e (image_at x hx 0) he (hn _) _).trans ?_
    rw [Finset.sum_range_one]
    have h0 : (Scalar.ofBits .f32 0x00000000#32 : Ideal .f32) = 0 := Ideal.ofBits_zero_f32
    rw [h0, zero_add]
  | succ n ih =>
    refine (loss_at (image (F := Ideal) x (n + 1)) e (image_at x hx (n + 1)) he (hn _) (total (F := Ideal) x e n)).trans ?_
    rw [ih, ← EReal.coe_add, Finset.sum_range_succ _ (n + 1)]

/-- The quantised input. -/
theorem quant_result (b : Fin 16) (c : Fin 64) (y z : Fin 32) :
    shapeCast S16x64x32x32 (quantAll (F := Ideal) x e) shapeCasts_S16x64x1024_S16x64x32x32 (ix4 b c y z)
      = ((w (near b ⟨y.val * 32 + z.val, by omega⟩) c : ℝ) : EReal) := by
  have h : shapeCast S16x64x32x32 (quantAll (F := Ideal) x e) shapeCasts_S16x64x1024_S16x64x32x32 (ix4 b c y z)
      = quantAll (F := Ideal) x e (ix3 b c (⟨y.val * 32 + z.val, by omega⟩ : Fin 1024)) := by pointwise
  have hb : (⟨b.val % 16, Nat.mod_lt _ (by decide)⟩ : Fin 16) = b := Fin.ext (Nat.mod_eq_of_lt b.isLt)
  have h' := quant_at (image (F := Ideal) x b.val) e (image_at x hx b.val) he (hn _) c (⟨y.val * 32 + z.val, by omega⟩ : Fin 1024)
  rw [hb] at h'
  exact h.trans h'

/-- The numbers of the nearest codebook vectors. -/
theorem idx_result (b : Fin 16) (p : Fin 1024) :
    shapeCast S16x1024 (idxAll (F := Ideal) x e) shapeCasts_S16x1x1024_S16x1024 (ix2 b p) = BitVec.ofNat 32 (near b p).val := by
  have h : shapeCast S16x1024 (idxAll (F := Ideal) x e) shapeCasts_S16x1x1024_S16x1024 (ix2 b p)
      = idxAll (F := Ideal) x e (ix3 b (0 : Fin 1) p) := by pointwise
  have hb : (⟨b.val % 16, Nat.mod_lt _ (by decide)⟩ : Fin 16) = b := Fin.ext (Nat.mod_eq_of_lt b.isLt)
  have h' := idx_at (image (F := Ideal) x b.val) e (image_at x hx b.val) he (hn _) p
  rw [hb] at h'
  exact h.trans h'

/-- The loss. -/
theorem loss_result : shapeCast S_ (fun _ => k0_pay2 (F := Ideal) (total (F := Ideal) x e 15) : Vec Ideal S1 .f32) shapeCasts_S1_S_ ix0
    = ((lossR xr w near : ℝ) : EReal) := by
  have h : shapeCast S_ (fun _ => k0_pay2 (F := Ideal) (total (F := Ideal) x e 15) : Vec Ideal S1 .f32) shapeCasts_S1_S_ ix0
      = Ideal.div (Ideal.ofBits .f32 0x3E800000#32 * total (F := Ideal) x e 15) (Ideal.ofBits .f32 0x49800000#32) := by
    pointwise [k0_pay2]
  rw [h, total_at x e hx he hn, ofBits_quarter, ofBits_entries, Ideal.div_coe (by norm_num), ← EReal.coe_mul,
    ← EReal.coe_mul, EReal.coe_eq_coe_iff, lossR, Finset.sum_range]
  have hb : ∀ b : Fin 16, (⟨b.val % 16, Nat.mod_lt _ (by decide)⟩ : Fin 16) = b :=
    fun b => Fin.ext (Nat.mod_eq_of_lt b.isLt)
  simp only [hb]

/-- The uses of a codebook vector, counted over all steps. -/
theorem counts_last (j : Fin 1024) : counts (F := Ideal) x e 15 (ix2 j (0 : Fin 1)) = ((uses near j : ℝ) : EReal) := by
  have hb : ∀ b : Fin 16, (⟨b.val % 16, Nat.mod_lt _ (by decide)⟩ : Fin 16) = b :=
    fun b => Fin.ext (Nat.mod_eq_of_lt b.isLt)
  rw [counts_at x e hx he hn, Finset.sum_range]
  simp only [hb]
  rfl

/-- The perplexity. -/
theorem perp_result : shapeCast S_ (fun _ => k0_pay3 (F := Ideal) (counts (F := Ideal) x e 15) : Vec Ideal S1 .f32)
    shapeCasts_S1_S_ ix0 = perpR near := perp_uses _ (counts_last x e hx he hn)

end

end Cert.Vq.Ker

end
-- ==== Proof.Vq.RefNearest.lean ====
/-
  The reference's choice of a codebook vector read at a position: the column of a row's smallest entry, where one entry
  lies strictly below the others, and the codebook's row of that number.
-/
module

public import proofs.«01_k».proof.Proof.Vq.RefValues
public import proofs.«01_k».proof.Proof.Vq.Reals

@[expose] public section

set_option maxRecDepth 16384

noncomputable section

namespace Cert.Vq.Ref

open Cert.ReferenceIdeal Cert.ReferenceIdeal.Gen
open Idealize.ShloMosaic

/-- The step of the search for the smallest entry: the smaller entry with its column, of equal ones the lower column. -/
theorem step_eq (a b : Ideal .f32 × BitVec 32) : reducer_argmin_f32_i32 (F := Ideal) a b
    = (if a.1 < b.1 then a.1 else b.1, if a.1 < b.1 ∨ (a.1 = b.1 ∧ a.2.slt b.2) then a.2 else b.2) := by
  have hne : ¬ (a.1 ≠ a.1) := fun h => h rfl
  by_cases h1 : a.1 < b.1 <;> by_cases h2 : a.1 = b.1 <;> by_cases h3 : a.2.slt b.2 = true <;>
    simp [reducer_argmin_f32_i32, Scalar.select, IntOp.cmpi, IntOp.ori, IntOp.andi, Ideal.cmpf_def, Ideal.cmp, h1, h2, h3]

/-- The search over a list holding a pair whose entry is strictly below all others finds that pair. -/
theorem foldl_least (p : EReal × BitVec 32) (L : List (EReal × BitVec 32)) : ∀ a : EReal × BitVec 32,
    (∀ b ∈ L, b = p ∨ p.1 < b.1) → (a = p ∨ (p.1 < a.1 ∧ p ∈ L)) →
      L.foldl (reducer_argmin_f32_i32 (F := Ideal)) a = p := by
  induction L with
  | nil => intro a _ h; simpa using h
  | cons b L ih =>
    intro a hL ha
    rw [List.foldl_cons]
    have hL' : ∀ c ∈ L, c = p ∨ p.1 < c.1 := fun c hc => hL c (List.mem_cons_of_mem _ hc)
    refine ih _ hL' ?_
    rw [step_eq]
    rcases ha with rfl | ⟨ha, hm⟩
    · rcases hL b List.mem_cons_self with rfl | hb
      · left; simp
      · left
        rw [if_pos hb, if_pos (Or.inl hb)]
    · rcases hL b List.mem_cons_self with rfl | hb
      · left
        rw [if_neg ha.not_gt, if_neg]
        rintro (h | h)
        · exact ha.not_gt h
        · exact ha.ne' h.1
      · right
        refine ⟨?_, ?_⟩
        · dsimp only
          split_ifs
          · exact ha
          · exact hb
        · rcases List.mem_cons.1 hm with rfl | h
          · exact absurd hb (lt_irrefl _)
          · exact h

/-- The pairs searched for one result: those at the source indices that drop to it. -/
theorem mem_pairs {α β : Type} {s t : Shape} {axes : List (Fin s.rank)} (x : s.Idx → α) (y : s.Idx → β)
    (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩ <;>
      rw [Equiv.symm_apply_apply]
    exact hi

/-- The search along the rows of a matrix, where one entry of the row is strictly below the others. -/
theorem least_at {N K : ℕ} {u : Shape} (d : FVec Ideal ⟨2, ![N, K]⟩ .f32) (y : IVec ⟨2, ![N, K]⟩ 32)
    (ix : u.Idx → Ideal .f32) (iy : u.Idx → BitVec 32) (h : (⟨2, ![N, K]⟩ : Shape).ReducesTo [1] ⟨1, ![N]⟩)
    (hu : 0 < u.numel) (r : Fin N) (i : Fin K) (hi : ∀ k, k ≠ i → d (ix2 r i) < d (ix2 r k))
    (htop : d (ix2 r i) < ix (Shape.Idx.first hu)) :
    Host.argReduce (F := Ideal) reducer_argmin_f32_i32 d y ix iy h hu (ix1 r) = (d (ix2 r i), y (ix2 r i)) := by
  rw [Ideal.argReduce_eq_reduce2, Host.reduce2_eq_foldl_fiber]
  refine foldl_least _ _ _ ?_ (Or.inr ⟨htop, (mem_pairs _ _ _ _ _).2 ⟨ix2 r i, (h.fiber_r2_a1 _ _).2 ⟨i, rfl⟩, rfl⟩⟩)
  intro b hb
  obtain ⟨n, hn, rfl⟩ := (mem_pairs _ _ _ _ _).1 hb
  obtain ⟨k, rfl⟩ := (h.fiber_r2_a1 _ _).1 hn
  by_cases hk : k = i
  · left; subst hk; rfl
  · right; exact hi k hk

/-- A constant's entries. -/
theorem constant_at {s : Shape} (b : BitVec 32) (j : s.Idx) :
    (constant s .f32 b : FVec Ideal s .f32) j = Ideal.ofBits .f32 b := rfl

/-- The column numbers of a matrix. -/
theorem columns_at {N K : ℕ} (r : Fin N) (i : Fin K) :
    iotaInDim ⟨2, ![N, K]⟩ 32 1 (ix2 r i) = BitVec.ofNat 32 i.val := rfl

/-- The column of the smallest entry of each row of a matrix of any size. -/
def columns {N K : ℕ} (d : FVec Ideal ⟨2, ![N, K]⟩ .f32) (h : (⟨2, ![N, K]⟩ : Shape).ReducesTo [1] ⟨1, ![N]⟩) :
    IVec ⟨1, ![N]⟩ 32 := fun j =>
  (Host.argReduce reducer_argmin_f32_i32 d (iotaInDim ⟨2, ![N, K]⟩ 32 1) (constant S_ .f32 0x7F800000#32)
    (constantI S_ 32 0#32) h Facts₀.h_S_ j).2

/-- The reference's columns are those. -/
theorem argmin_eq (d : FVec Ideal S16384x1024 .f32) :
    argmin d = columns (N := 16384) (K := 1024) d Facts₀.reducesTo_S16384x1024_S16384_d1 := rfl

/-- The column of a row's smallest entry, where that entry is strictly below the others of its row; any size. -/
theorem columns_least {N K : ℕ} (d : FVec Ideal ⟨2, ![N, K]⟩ .f32)
    (h : (⟨2, ![N, K]⟩ : Shape).ReducesTo [1] ⟨1, ![N]⟩) (r : Fin N) (i : Fin K)
    (hi : ∀ k, k ≠ i → d (ix2 r i) < d (ix2 r k)) (htop : d (ix2 r i) < ⊤) :
    columns d h (ix1 r) = BitVec.ofNat 32 i.val := by
  unfold columns
  rw [least_at d _ _ _ h Facts₀.h_S_ r i hi (by rw [constant_at, ofBits_top]; exact htop)]
  exact columns_at r i

/-- The column of a row's smallest entry, where that entry is strictly below the others of its row. -/
theorem argmin_at (d : FVec Ideal S16384x1024 .f32) (r : Fin 16384) (i : Fin 1024)
    (hi : ∀ k, k ≠ i → d (ix2 r i) < d (ix2 r k)) (htop : d (ix2 r i) < ⊤) :
    argmin d (ix1 r) = BitVec.ofNat 32 i.val := by
  rw [argmin_eq]
  exact columns_least d _ r i hi htop

/-- The codebook's row of a number. -/
theorem gather_at (e : FVec Ideal S1024x64 .f32) (i : IVec S16384x1 32) (r : Fin 16384) (c : Fin 64) (k : Fin 1024)
    (hk : i (ix2 r (0 : Fin 1)) = BitVec.ofNat 32 k.val) :
    Host.gather gather_S1024x64_S16384x1_S16384x64_1_0_n_n_0_1_164 e i (ix2 r c) = e (ix2 k c) := by
  unfold Host.gather
  refine congrArg e (funext fun a => Fin.ext ?_)
  have hb : a ∉ gather_S1024x64_S16384x1_S16384x64_1_0_n_n_0_1_164.operandBatchingDims := List.not_mem_nil
  simp only [GatherDims.operandIdx, GatherDims.batchCoord_eq_zero _ _ _ hb, Nat.add_zero]
  match a with
  | ⟨0, _⟩ =>
    have hm : (0 : Fin 2) ∈ gather_S1024x64_S16384x1_S16384x64_1_0_n_n_0_1_164.startIndexMap := List.mem_singleton.2 rfl
    have hi : gather_S1024x64_S16384x1_S16384x64_1_0_n_n_0_1_164.siIdx (ix2 r c)
        ⟨List.idxOf (0 : Fin 2) gather_S1024x64_S16384x1_S16384x64_1_0_n_n_0_1_164.startIndexMap,
          List.idxOf_lt_length_of_mem hm⟩ = ix2 r (0 : Fin 1) := by
      funext b
      match b with
      | ⟨0, _⟩ => rfl
      | ⟨1, _⟩ => rfl
    have hs : gather_S1024x64_S16384x1_S16384x64_1_0_n_n_0_1_164.start (ix2 r c) i (0 : Fin 2) = k.val := by
      rw [GatherDims.start, dif_pos hm, hi, hk, toInt_number _ k.isLt, Int.toNat_natCast]
      exact Nat.min_eq_left (show k.val ≤ 1024 - 1 by omega)
    exact hs
  | ⟨1, _⟩ =>
    have hm : (1 : Fin 2) ∉ gather_S1024x64_S16384x1_S16384x64_1_0_n_n_0_1_164.startIndexMap := by
      intro h; exact absurd (List.mem_singleton.1 h) (by decide)
    have hk' : (1 : Fin 2) ∈ gather_S1024x64_S16384x1_S16384x64_1_0_n_n_0_1_164.sKept :=
      (GatherDims.mem_sKept _ _).2 ⟨fun h => absurd (List.mem_singleton.1 h) (by decide), List.not_mem_nil⟩
    have hs : gather_S1024x64_S16384x1_S16384x64_1_0_n_n_0_1_164.start (ix2 r c) i (1 : Fin 2) = 0 := by
      rw [GatherDims.start, dif_neg hm]
    have ho : gather_S1024x64_S16384x1_S16384x64_1_0_n_n_0_1_164.offCoord (ix2 r c) (1 : Fin 2) = c.val := by
      rw [GatherDims.offCoord, dif_pos hk']
      rfl
    exact (congrArg₂ (· + ·) hs ho).trans (Nat.zero_add _)

end Cert.Vq.Ref

end
-- ==== Proof.Vq.RefAll.lean ====
/-
  The reference's four results on real entries, where every position has one codebook vector strictly nearer than the
  others.
-/
module

public import proofs.«01_k».proof.Proof.Vq.RefNearest
public import Idealize.ShloMosaic.Lib.Pipeline.ValueKit.Acc

@[expose] public section

set_option maxRecDepth 16384

noncomputable section

namespace Cert.Vq.Ref

open Cert.ReferenceIdeal Cert.ReferenceIdeal.Gen
open Idealize.ShloMosaic Idealize.ShloMosaic.TcCoe Idealize.ShloMosaic.Tactic

/-- The image of a row of positions. -/
def img (r : Fin 16384) : Fin 16 := ⟨r.val / 1024, by omega⟩

/-- The place of a row in its image. -/
def place (r : Fin 16384) : Fin 1024 := ⟨r.val % 1024, by omega⟩

/-- The row of a place of an image. -/
def row (b : Fin 16) (p : Fin 1024) : Fin 16384 := ⟨b.val * 1024 + p.val, by omega⟩

/-- The image of an image's row. -/
theorem img_row (b : Fin 16) (p : Fin 1024) : img (row b p) = b :=
  Fin.ext (by show (b.val * 1024 + p.val) / 1024 = b.val; omega)

/-- The place of an image's row. -/
theorem place_row (b : Fin 16) (p : Fin 1024) : place (row b p) = p :=
  Fin.ext (by show (b.val * 1024 + p.val) % 1024 = p.val; omega)

section
variable (i : IVec S16384 32) (r : Fin 16384) (k : Fin 1024)

/-- A codebook vector's number is not counted from the end. -/
theorem rows_at (hk : i (ix1 r) = BitVec.ofNat 32 k.val) : rows i (ix2 r (0 : Fin 1)) = BitVec.ofNat 32 k.val := by
  have h : IntOp.cmpi .slt (BitVec.ofNat 32 k.val) 0#32 = 0#1 := by
    unfold IntOp.cmpi
    dsimp only
    rw [BitVec.slt_eq_decide, toInt_number _ k.isLt, decide_eq_false (by simp)]
    rfl
  pointwise [rows]
  rw [hk, h]
  rfl

/-- A codebook vector's number lies inside the codebook. -/
theorem inside_at (hk : i (ix1 r) = BitVec.ofNat 32 k.val) : inside i (ix1 r) = 1#1 := by
  have h0 : IntOp.cmpi .sge (BitVec.ofNat 32 k.val) 0#32 = 1#1 := by
    unfold IntOp.cmpi
    dsimp only
    rw [BitVec.sle_eq_decide, toInt_number _ k.isLt, decide_eq_true (by simp)]
    rfl
  have h1 : IntOp.cmpi .sle (BitVec.ofNat 32 k.val) 1023#32 = 1#1 := by
    unfold IntOp.cmpi
    dsimp only
    rw [BitVec.sle_eq_decide, toInt_number _ k.isLt, decide_eq_true
      (show (k.val : ℤ) ≤ (1023#32 : BitVec 32).toInt by rw [show (1023#32 : BitVec 32).toInt = 1023 by decide]; omega)]
    rfl
  pointwise [inside]
  rw [Finset.univ_unique, Finset.fold_singleton]
  rw [show (default : Fin 1) = 0 from rfl, rows_at i r k hk, h0, h1]
  rfl

/-- The codebook vector taken for a row. -/
theorem taken_at (e : FVec Ideal S1024x64 .f32) (c : Fin 64) (hk : i (ix1 r) = BitVec.ofNat 32 k.val) :
    taken e i (ix2 r c) = e (ix2 k c) := by
  pointwise [taken]
  rw [inside_at i r k hk, gather_at e (rows i) r c k (rows_at i r k hk)]
  rfl

/-- The one-hot matrix's entries. -/
theorem one_hot (j : Fin 1024) (hk : i (ix1 r) = BitVec.ofNat 32 k.val) :
    FloatOps.uitofp (F := Ideal) FTy.f32 (IntOp.cmpi .eq (i (ix1 r)) (BitVec.ofNat 32 j.val))
      = ((if j = k then 1 else 0 : ℝ) : EReal) := by
  rw [hk]
  by_cases h : j = k
  · subst h
    rw [if_pos rfl, show IntOp.cmpi .eq (BitVec.ofNat 32 j.val) (BitVec.ofNat 32 j.val) = 1#1 by simp [IntOp.cmpi]]
    show (((1 : ℕ) : ℝ) : EReal) = _
    norm_cast
  · have hne : BitVec.ofNat 32 k.val ≠ BitVec.ofNat 32 j.val := fun h' => h (Fin.ext (by
      have := congrArg BitVec.toInt h'
      rw [toInt_number _ k.isLt, toInt_number _ j.isLt] at this
      omega))
    rw [if_neg h, show IntOp.cmpi .eq (BitVec.ofNat 32 k.val) (BitVec.ofNat 32 j.val) = 0#1 by
      rw [IntOp.cmpi, beq_eq_false_iff_ne.2 hne]; rfl]
    show (((0 : ℕ) : ℝ) : EReal) = _
    norm_cast

end

/-- Numbers a row per image, read at an image and a place. -/
theorem idxOf_at (i : IVec S16384 32) (b : Fin 16) (p : Fin 1024) : idxOf i (ix2 b p) = i (ix1 (row b p)) := by
  pointwise [idxOf]
  rfl

/-- The share of the rows that hold a number. -/
theorem share_of (i : IVec S16384 32) {near : Fin 16 → Fin 1024 → Fin 1024}
    (hi : ∀ r, i (ix1 r) = BitVec.ofNat 32 (near (img r) (place r)).val) (j : Fin 1024) :
    share (F := Ideal) i (ix1 j) = ((uses near j * (1 / 16384) : ℝ) : EReal) := by
  pointwise [share, oneHot]
  simp only [one_hot i _ _ j (hi _), ← coe_sum]
  rw [ofBits_positions, Ideal.div_coe (by norm_num), ← EReal.coe_mul, EReal.coe_eq_coe_iff, uses]
  refine congrArg (· * (1 / 16384 : ℝ)) ?_
  exact Fin.sum_divmod_fin 1024 (fun b p => if j = near b p then (1 : ℝ) else 0)

/-- A sum over all four axes, axis by axis. -/
theorem total_sum {n0 n1 n2 n3 : ℕ} {t : Shape} {axes : List (Fin 4)}
    (h : (⟨4, ![n0, n1, n2, n3]⟩ : Shape).ReducesTo axes t) (ht : ∀ b, t.size b = 1)
    (v : FVec Ideal ⟨4, ![n0, n1, n2, n3]⟩ .f32) (init : EReal) (j : t.Idx) : Ideal.hostReduceAdd h v init j
      = init + ∑ a : Fin n0, ∑ b : Fin n1, ∑ c : Fin n2, ∑ d : Fin n3, v (ix4 a b c d) := by
  rw [Ideal.hostReduceAdd_total h ht, sum_idx4]

section
variable (x : FVec Ideal S16x64x32x32 .f32) (e : FVec Ideal S1024x64 .f32)
variable {xr : S16x64x32x32.Idx → ℝ} {w : Fin 1024 → Fin 64 → ℝ} {near : Fin 16 → Fin 1024 → Fin 1024}

/-- The distances the reference compares are the squared distances. -/
theorem dist_at (hx : ∀ i, x i = ((xr i : ℝ) : EReal)) (he : ∀ j c, e (ix2 j c) = ((w j c : ℝ) : EReal))
    (r : Fin 16384) (j : Fin 1024) : dist x e (ix2 r j) = ((gap (pos xr (img r)) w j (place r) : ℝ) : EReal) := by
  have hr : ∀ c : Fin 64, x (ix4 (⟨r.val / 1024, by omega⟩ : Fin 16) c (⟨r.val / 32 % 32, by omega⟩ : Fin 32)
      (⟨r.val % 32, by omega⟩ : Fin 32)) = ((pos xr (img r) c (place r) : ℝ) : EReal) := fun c => by
    rw [hx, EReal.coe_eq_coe_iff, pos]
    have h1 : (⟨r.val / 32 % 32, by omega⟩ : Fin 32) = ⟨(place r).val / 32, by omega⟩ :=
      Fin.ext (by show r.val / 32 % 32 = r.val % 1024 / 32; omega)
    have h2 : (⟨r.val % 32, by omega⟩ : Fin 32) = ⟨(place r).val % 32, by omega⟩ :=
      Fin.ext (by show r.val % 32 = r.val % 1024 % 32; omega)
    rw [h1, h2, img]
  pointwise [dist, sqFlat, sqEmb, products, flat]
  simp only [hr, he, ofBits_two, ← EReal.coe_mul, ← coe_sum, ← EReal.coe_add, ← EReal.coe_sub]
  rw [EReal.coe_eq_coe_iff, gap_eq, Finset.mul_sum, sub_eq_add_neg, ← Finset.sum_neg_distrib,
    add_comm (∑ c, pos xr (img r) c (place r) * pos xr (img r) c (place r))]
  exact congrArg _ (Finset.sum_congr rfl fun c _ => by ring)

variable (hx : ∀ i, x i = ((xr i : ℝ) : EReal)) (he : ∀ j c, e (ix2 j c) = ((w j c : ℝ) : EReal))
  (hn : ∀ b p k, k ≠ near b p → gap (pos xr b) w (near b p) p < gap (pos xr b) w k p)

include hx he hn

/-- The number of the nearest codebook vector. -/
theorem nearest_at (r : Fin 16384) : nearest x e (ix1 r) = BitVec.ofNat 32 (near (img r) (place r)).val := by
  refine argmin_at (dist x e) r (near (img r) (place r)) (fun k hk => ?_) ?_
  · rw [dist_at x e hx he, dist_at x e hx he, EReal.coe_lt_coe_iff]
    exact hn _ _ k hk
  · rw [dist_at x e hx he]
    exact EReal.coe_lt_top _

/-- The numbers, a row per image. -/
theorem idx_result (b : Fin 16) (p : Fin 1024) : idxOf (nearest x e) (ix2 b p) = BitVec.ofNat 32 (near b p).val :=
  (idxOf_at _ b p).trans ((nearest_at x e hx he hn (row b p)).trans (by rw [img_row, place_row]))

/-- The nearest codebook vectors in the input's layout. -/
theorem chosen_at (b : Fin 16) (c : Fin 64) (y z : Fin 32) : chosen x e (ix4 b c y z)
    = ((w (near b ⟨y.val * 32 + z.val, by omega⟩) c : ℝ) : EReal) := by
  have h : chosen x e (ix4 b c y z) = taken e (nearest x e) (ix2 (row b ⟨y.val * 32 + z.val, by omega⟩) c) := by
    unfold chosen
    generalize taken e (nearest x e) = q
    pointwise [unflat]
    exact congrArg (fun r => q (ix2 r c)) (Fin.ext (Nat.add_assoc _ _ _))
  rw [h, taken_at (nearest x e) _ _ e c (nearest_at x e hx he hn _), he, img_row, place_row]

/-- The quantised input. -/
theorem quant_result (b : Fin 16) (c : Fin 64) (y z : Fin 32) : quantOf x (chosen x e) (ix4 b c y z)
    = ((w (near b ⟨y.val * 32 + z.val, by omega⟩) c : ℝ) : EReal) := by
  pointwise [quantOf]
  rw [chosen_at x e hx he hn, hx, ← EReal.coe_sub, ← EReal.coe_add, EReal.coe_eq_coe_iff]
  ring

/-- The squared differences of an image in all channels, row by row, are its squared distances. -/
theorem sum_gaps (b : Fin 16) : (∑ c : Fin 64, ∑ y : Fin 32, ∑ z : Fin 32,
      (xr (ix4 b c y z) - w (near b ⟨y.val * 32 + z.val, by omega⟩) c)
        * (xr (ix4 b c y z) - w (near b ⟨y.val * 32 + z.val, by omega⟩) c))
    = ∑ p, gap (pos xr b) w (near b p) p := by
  unfold gap
  rw [Finset.sum_comm (s := (Finset.univ : Finset (Fin 1024)))]
  refine Finset.sum_congr rfl fun c _ => ?_
  rw [← Fin.sum_mul_add_fin 32 32 (fun p : Fin 1024 => (w (near b p) c - pos xr b c p) ^ 2)]
  refine Finset.sum_congr rfl fun y _ => Finset.sum_congr rfl fun z _ => ?_
  have hp : pos xr b c ⟨y.val * 32 + z.val, by omega⟩ = xr (ix4 b c y z) := by
    unfold pos
    have h1 : (⟨(y.val * 32 + z.val) / 32, by omega⟩ : Fin 32) = y := Fin.ext (by dsimp only; omega)
    have h2 : (⟨(y.val * 32 + z.val) % 32, by omega⟩ : Fin 32) = z := Fin.ext (by dsimp only; omega)
    dsimp only
    rw [h1, h2]
  rw [hp]
  ring

/-- The loss. -/
theorem loss_result : lossOf x (chosen x e) ix0 = ((lossR xr w near : ℝ) : EReal) := by
  have hq := chosen_at x e hx he hn
  generalize chosen x e = q at hq ⊢
  pointwise [lossOf]
  rw [total_sum _ (fun b => b.elim0)]
  pointwise
  simp only [hq, hx, ← EReal.coe_sub, ← EReal.coe_mul, ← coe_sum]
  rw [ofBits_quarter, ofBits_entries, Ideal.div_coe (by norm_num), ← EReal.coe_mul,
    ← EReal.coe_mul, EReal.coe_eq_coe_iff, lossR, mul_assoc]
  exact congrArg (fun s => 1 / 4 * (s * (1 / 1048576))) (Finset.sum_congr rfl fun b _ => sum_gaps x e hx he hn b)

/-- The share of the positions that chose a codebook vector. -/
theorem share_at (j : Fin 1024) : share (F := Ideal) (nearest x e) (ix1 j)
    = ((uses near j * (1 / 16384) : ℝ) : EReal) := share_of _ (nearest_at x e hx he hn) j

/-- The perplexity. -/
theorem perp_result : perpOf (F := Ideal) (nearest x e) ix0 = perpR near := by
  have hs := share_at x e hx he hn
  generalize nearest x e = i at hs ⊢
  have h : perpOf (F := Ideal) i ix0 = Ideal.exp (-∑ j : Fin 1024, share (F := Ideal) i (ix1 j)
      * Ideal.log (share (F := Ideal) i (ix1 j) + Ideal.ofBits .f32 0x2EDBE6FF#32)) := by
    pointwise [perpOf]
  rw [h, perpR]
  simp only [hs]

end

end Cert.Vq.Ref

end
-- ==== Proof.Vq.Pre.lean ====
/-
  What the precondition says: the entries of both arguments are real numbers, and every position has one codebook vector
  strictly nearer than all others.
-/
module

public import proofs.«01_k».proof.Proof.Vq.RefAll
public import proofs.«01_k».proof.Proof.Gen.Pre_nearest_is_unique

@[expose] public section

set_option maxRecDepth 16384

noncomputable section

namespace Cert.Vq.Ref

open Cert.ReferenceIdeal Cert.ReferenceIdeal.Gen
open Idealize.ShloMosaic Idealize.ShloMosaic.TcCoe Idealize.ShloMosaic.Tactic

/-- How many entries of each row equal the row's smallest. -/
def leastCount (d : FVec Ideal S16384x1024 .f32) : FVec Ideal S16384 .f32 :=
  Host.reduceAdd (uitofp .f32 (cmpf .oeq d
      (broadcastInDim S16384x1024 ![0, 1] Facts₀.bcast_S16384x1_S16384x1024_0_1
        (broadcastInDim S16384x1 ![0] Facts₀.bcast_S16384_S16384x1_0
          (Host.reduce FloatOps.minimumf d (constant S_ .f32 0x7F800000#32)
            Facts₀.reducesTo_S16384x1024_S16384_d1 Facts₀.h_S_)))))
    (constant S_ .f32 0x00000000#32) Facts₀.reducesTo_S16384x1024_S16384_d1 Facts₀.h_S_

/-- The largest magnitude in each row. -/
def rowTop (f : FVec Ideal S16384x64 .f32) : FVec Ideal S16384 .f32 :=
  Host.reduce FloatOps.maximumf (Host.absf f) (constant S_ .f32 0xFF800000#32)
    Facts₀.reducesTo_S16384x64_S16384_d1 Facts₀.h_S_

/-- The largest magnitude in the codebook. -/
def allTop (e : FVec Ideal S1024x64 .f32) : FVec Ideal S_ .f32 :=
  Host.reduce FloatOps.maximumf (Host.absf e) (constant S_ .f32 0xFF800000#32)
    (Cert.Pre_nearest_is_unique.Facts.reducesTo_S1024x64_S_d0_1) Facts₀.h_S_

/-- One count of one, magnitudes below infinity. -/
def holds (a b : FVec Ideal S16384 .f32) (c : FVec Ideal S_ .f32) : IVec S16384 1 :=
  andi (andi (cmpf .oeq a (broadcastInDim S16384 ![] Facts₀.bcast_S_S16384 (constant S_ .f32 0x3F800000#32)))
      (cmpf .olt b (broadcastInDim S16384 ![] Facts₀.bcast_S_S16384 (constant S_ .f32 0x7F800000#32))))
    (broadcastInDim S16384 ![] Facts₀.bcast_S_S16384 (cmpf .olt c (constant S_ .f32 0x7F800000#32)))

/-- The precondition in these words. -/
theorem pre_eq (x : FVec Ideal S16x64x32x32 .f32) (e : FVec Ideal S1024x64 .f32) :
    Cert.Pre_nearest_is_unique.fn (F := Ideal) x e = holds (leastCount (dist x e)) (rowTop (flat x)) (allTop e) := rfl

/-- Three conditions that hold together each hold. -/
theorem three_of_and (p q s : Bool)
    (h : IntOp.andi (IntOp.andi (BitVec.ofBool p) (BitVec.ofBool q)) (BitVec.ofBool s) = 1#1) :
    p = true ∧ q = true ∧ s = true := by
  revert h; revert p q s; decide

/-- The three conditions at a row. -/
theorem holds_at (a b : FVec Ideal S16384 .f32) (c : FVec Ideal S_ .f32) (r : Fin 16384)
    (h : holds a b c (ix1 r) = 1#1) : a (ix1 r) = 1 ∧ b (ix1 r) < ⊤ ∧ c ix0 < ⊤ := by
  pointwise [holds] at h
  obtain ⟨h1, h2, h3⟩ := three_of_and _ _ _ h
  have h1 := of_decide_eq_true h1
  have h2 := of_decide_eq_true h2
  have h3 := of_decide_eq_true h3
  rw [ofBits_top] at h2 h3
  exact ⟨h1, h2, h3⟩

/-- A magnitude below infinity is a real number's. -/
theorem real_of_abs (v : EReal) (h : max v (-v) < ⊤) : v = ((v.toReal : ℝ) : EReal) := by
  refine (EReal.coe_toReal (fun hv => ?_) fun hv => ?_).symm
  · subst hv; simp at h
  · subst hv; simp at h

/-- A row whose largest magnitude is below infinity holds real numbers. -/
theorem row_real (f : FVec Ideal S16384x64 .f32) (r : Fin 16384) (h : rowTop f (ix1 r) < ⊤) (c : Fin 64) :
    f (ix2 r c) = (((f (ix2 r c) : EReal).toReal : ℝ) : EReal) := by
  pointwise [rowTop] at h
  exact real_of_abs _ (((Finset.fold_max_lt _).1 h).2 c (Finset.mem_univ _))

/-- A codebook whose largest magnitude is below infinity holds real numbers. -/
theorem all_real (e : FVec Ideal S1024x64 .f32) (h : allTop e ix0 < ⊤) (j : Fin 1024) (c : Fin 64) :
    e (ix2 j c) = (((e (ix2 j c) : EReal).toReal : ℝ) : EReal) := by
  pointwise [allTop] at h
  exact real_of_abs _ (((Finset.fold_max_lt _).1 h).2 (j, c) (Finset.mem_univ _))

/-- Ones counted among the extended reals. -/
theorem uitofp_bit (p : Bool) : FloatOps.uitofp (F := Ideal) FTy.f32 (BitVec.ofBool p)
    = ((if p = true then 1 else 0 : ℝ) : EReal) := by
  cases p
  · show (((0 : ℕ) : ℝ) : EReal) = _
    norm_num
  · show (((1 : ℕ) : ℝ) : EReal) = _
    norm_num

/-- A row with one entry equal to its smallest has one entry strictly below the others. -/
theorem one_least (d : FVec Ideal S16384x1024 .f32) (r : Fin 16384) (h : leastCount d (ix1 r) = 1) :
    ∃ i : Fin 1024, ∀ k, k ≠ i → (d (ix2 r i) : EReal) < d (ix2 r k) := by
  pointwise [leastCount] at h
  simp only [uitofp_bit, ← coe_sum, decide_eq_true_eq] at h
  generalize hM : Finset.fold min (Ideal.ofBits FTy.f32 2139095040#32) (fun x => (d (ix2 r x) : EReal)) Finset.univ = M at h
  have hle : ∀ k : Fin 1024, M ≤ d (ix2 r k) := fun k =>
    ((Finset.le_fold_min _).1 hM.ge).2 k (Finset.mem_univ _)
  have h' : ((∑ k : Fin 1024, if (d (ix2 r k) : EReal) = M then 1 else 0 : ℝ)) = 1 := by
    have h1 : (1 : EReal) = ((1 : ℝ) : EReal) := rfl
    rw [h1, EReal.coe_eq_coe_iff] at h
    exact h
  rw [Finset.sum_boole, Nat.cast_eq_one, Finset.card_eq_one] at h'
  obtain ⟨i, hi⟩ := h'
  have hin : ∀ k, (d (ix2 r k) : EReal) = M ↔ k = i := fun k => by
    have hk := Finset.ext_iff.1 hi k
    rw [Finset.mem_filter, Finset.mem_singleton] at hk
    exact ⟨fun h => hk.1 ⟨Finset.mem_univ _, h⟩, fun h => (hk.2 h).2⟩
  have hiM : (d (ix2 r i) : EReal) = M := (hin i).2 rfl
  refine ⟨i, fun k hk => ?_⟩
  rw [hiM]
  refine lt_of_le_of_ne (hle k) fun hkM => hk ((hin k).1 hkM.symm)

/-- The precondition: real entries, and a strictly nearest codebook vector for every position. -/
theorem of_pre (x : FVec Ideal S16x64x32x32 .f32) (e : FVec Ideal S1024x64 .f32)
    (h : Cert.Pre_nearest_is_unique.fn (F := Ideal) x e = fun _ => 1#1) :
    ∃ (xr : S16x64x32x32.Idx → ℝ) (w : Fin 1024 → Fin 64 → ℝ) (near : Fin 16 → Fin 1024 → Fin 1024),
      (∀ i, x i = ((xr i : ℝ) : EReal)) ∧ (∀ j c, e (ix2 j c) = ((w j c : ℝ) : EReal))
        ∧ ∀ b p k, k ≠ near b p → gap (pos xr b) w (near b p) p < gap (pos xr b) w k p := by
  rw [pre_eq] at h
  have hr : ∀ r : Fin 16384, leastCount (dist x e) (ix1 r) = 1 ∧ rowTop (flat x) (ix1 r) < ⊤ ∧ allTop e ix0 < ⊤ :=
    fun r => holds_at _ _ _ r (congrFun h (ix1 r))
  have hx : ∀ i, x i = (((x i : EReal).toReal : ℝ) : EReal) := fun i => by
    have hf := row_real (flat x) (row (i 0) ⟨(i 2).val * 32 + (i 3).val, by
      have h2 : (i 2).val < 32 := (i 2).isLt
      have h3 : (i 3).val < 32 := (i 3).isLt
      omega⟩) (hr _).2.1 (i 1)
    have hi : flat x (ix2 (row (i 0) ⟨(i 2).val * 32 + (i 3).val, by
      have h2 : (i 2).val < 32 := (i 2).isLt
      have h3 : (i 3).val < 32 := (i 3).isLt
      omega⟩) (i 1)) = x i := by
      have h2 : (i 2).val < 32 := (i 2).isLt
      have h3 : (i 3).val < 32 := (i 3).isLt
      have h0 : (i 0).val < 16 := (i 0).isLt
      pointwise [flat]
      refine congrArg x (funext fun a => ?_)
      match a with
      | ⟨0, _⟩ => exact Fin.ext (by show ((i 0).val * 1024 + ((i 2).val * 32 + (i 3).val)) / 1024 = (i 0).val; omega)
      | ⟨1, _⟩ => rfl
      | ⟨2, _⟩ => exact Fin.ext (by show ((i 0).val * 1024 + ((i 2).val * 32 + (i 3).val)) / 32 % 32 = (i 2).val; omega)
      | ⟨3, _⟩ => exact Fin.ext (by show ((i 0).val * 1024 + ((i 2).val * 32 + (i 3).val)) % 32 = (i 3).val; omega)
    rw [hi] at hf
    exact hf
  have he : ∀ (j : Fin 1024) (c : Fin 64), e (ix2 j c) = (((e (ix2 j c) : EReal).toReal : ℝ) : EReal) :=
    fun j c => all_real e (hr 0).2.2 j c
  refine ⟨fun i => (x i : EReal).toReal, fun j c => (e (ix2 j c) : EReal).toReal, fun b p => (one_least _ (row b p) (hr _).1).choose,
    hx, he, fun b p k hk => ?_⟩
  have hlt := (one_least _ (row b p) (hr _).1).choose_spec k hk
  rw [dist_at x e hx he, dist_at x e hx he, EReal.coe_lt_coe_iff, img_row, place_row] at hlt
  exact hlt

end Cert.Vq.Ref

end
-- ==== Proof.Vq.Equation.lean ====
/-
  Under the precondition each of the kernel's four results is the reference's.
-/
module

public import proofs.«01_k».proof.Proof.Vq.KerAll
public import proofs.«01_k».proof.Proof.Vq.Pre

@[expose] public section

set_option maxRecDepth 16384

noncomputable section

namespace Cert.Vq

open Cert.KernelIdeal Cert.KernelIdeal.Gen
open Idealize.ShloMosaic Idealize.ShloMosaic.TcCoe Idealize.ShloMosaic.Tactic

/-- Two arrays over four axes that agree at all coordinates are equal. -/
theorem ext4 {A : Type} {n0 n1 n2 n3 : Nat} (f g : (⟨4, ![n0, n1, n2, n3]⟩ : Shape).Idx → A)
    (h : ∀ a b c d, f (ix4 a b c d) = g (ix4 a b c d)) : f = g := funext fun i => by
  rw [← ix4_eta i]
  exact h _ _ _ _

/-- Two arrays over two axes that agree at all coordinates are equal. -/
theorem ext2 {A : Type} {n0 n1 : Nat} (f g : (⟨2, ![n0, n1]⟩ : Shape).Idx → A)
    (h : ∀ a b, f (ix2 a b) = g (ix2 a b)) : f = g := funext fun i => by
  rw [← ix2_eta i]
  exact h _ _

/-- Two arrays of one entry that agree there are equal. -/
theorem ext0 {A : Type} (f g : (⟨0, ![]⟩ : Shape).Idx → A) (h : f ix0 = g ix0) : f = g := funext fun i => by
  have hi : i = ix0 := funext fun a => a.elim0
  rw [hi]
  exact h

/-- The four results of the kernel are the four results of the reference. -/
theorem results_eq (x : FVec Ideal S16x64x32x32 .f32) (e : FVec Ideal S1024x64 .f32)
    (h : Cert.Pre_nearest_is_unique.fn (F := Ideal) x e = fun _ => 1#1) :
    Ref.quantOf x (Ref.chosen x e) = shapeCast S16x64x32x32 (Ker.quantAll (F := Ideal) x e) shapeCasts_S16x64x1024_S16x64x32x32
    ∧ Ref.lossOf x (Ref.chosen x e) = shapeCast S_ (fun _ => k0_pay2 (F := Ideal) (Ker.total (F := Ideal) x e 15) : Vec Ideal S1 .f32) shapeCasts_S1_S_
    ∧ Ref.perpOf (F := Ideal) (Ref.nearest x e)
        = shapeCast S_ (fun _ => k0_pay3 (F := Ideal) (Ker.counts (F := Ideal) x e 15) : Vec Ideal S1 .f32) shapeCasts_S1_S_
    ∧ Ref.idxOf (Ref.nearest x e) = shapeCast S16x1024 (Ker.idxAll (F := Ideal) x e) shapeCasts_S16x1x1024_S16x1024 := by
  obtain ⟨xr, w, near, hx, he, hn⟩ := Ref.of_pre x e h
  exact ⟨ext4 _ _ fun b c y z => (Ref.quant_result x e hx he hn b c y z).trans (Ker.quant_result x e hx he hn b c y z).symm,
    ext0 _ _ ((Ref.loss_result x e hx he hn).trans (Ker.loss_result x e hx he hn).symm),
    ext0 _ _ ((Ref.perp_result x e hx he hn).trans (Ker.perp_result x e hx he hn).symm),
    ext2 _ _ fun b p => (Ref.idx_result x e hx he hn b p).trans (Ker.idx_result x e hx he hn b p).symm⟩

end Cert.Vq

end
-- ==== Proof.lean ====
/-
  The proof of the claims of Defs.lean: the frames of the kernel, of its ideal reading and of the reference, and the
  equality of the ideal reading's four results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_is_unique
public import proofs.«01_k».proof.Proof.Vq.RefRun
public import proofs.«01_k».proof.Proof.Vq.KerRun
public import proofs.«01_k».proof.Proof.Vq.Equation
public import Idealize.ShloMosaic.Adequacy
public import Idealize.ShloMosaic.Init

@[expose] public section

noncomputable section

namespace Cert.Proof

open Idealize.ShloMosaic Idealize.SL.Sem Cert.Kernel

/-- Under the precondition the kernel and the reference, run from the same arguments, end with the same four results and
    leave the arguments unchanged. -/
theorem same_results : Cert.algebraic_KernelIdeal_ReferenceIdeal_pre_nearest_is_unique
    (hKernelIdeal := Cert.KernelIdeal.Gen.facts) (hReferenceIdeal := Cert.ReferenceIdeal.Gen.facts)
    (hPre_nearest_is_unique := Cert.Pre_nearest_is_unique.Gen.facts) := by
  intro m g m' g' hpre hagree
  refine ⟨_, _, _, _, Cert.Vq.Ker.run_results m g, ?_⟩
  refine (θ_run _ _ _).mono (fun r h c => ?_) (Cert.Vq.Ref.run_results (F := Ideal) m' g')
  obtain ⟨h0, h1, h2, h3, h4, h5⟩ := h c
  have hq := Cert.Vq.results_eq _ _ (hpre c)
  rw [(hagree c).1, (hagree c).2] at h0 h1
  rw [(hagree c).1, (hagree c).2] at h2 h3
  exact ⟨h0.trans hq.1, h1.trans hq.2.1, h2.trans hq.2.2.1, h3.trans hq.2.2.2, h4, h5⟩

/-- All the claims. -/
theorem claim : Cert.Claim :=
  ⟨Cert.Kernel.Gen.facts, Cert.KernelIdeal.Gen.facts, Cert.ReferenceIdeal.Gen.facts, Cert.Pre_nearest_is_unique.Gen.facts,
    fun m ρ _ => Cert.Kernel.Gen.frame m ρ, fun m ρ _ => Cert.KernelIdeal.Gen.frame m ρ,
    fun m ρ _ => Cert.KernelIdeal.Gen.frame m ρ, fun m ρ _ => Cert.Vq.Ref.frame m ρ,
    fun m ρ _ => Cert.Vq.Ref.frame m ρ, trivial, same_results⟩

end Cert.Proof

end
